-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x40 : Shape := ⟨2, ![16384, 40]⟩
abbrev S512x128 : Shape := ⟨2, ![512, 128]⟩
abbrev S128x64 : Shape := ⟨2, ![128, 64]⟩
abbrev S1749x256 : Shape := ⟨2, ![1749, 256]⟩
abbrev S256 : Shape := ⟨1, ![256]⟩
abbrev S_ : Shape := ⟨0, ![]⟩

class Facts : Prop where
  bcast_S_S16384x40 : S_.BroadcastsInDim S16384x40 (![] : Fin 0 → Fin S16384x40.rank)
  reducesTo_S16384x40_S_d0_1 : S16384x40.ReducesTo [0, 1] S_
  h_S_ : 0 < S_.numel

variable [Facts]

def fn {F : FTy → Type} [FloatOps F] (main_arg0 : IVec S16384x40 32) (main_arg1 : FVec F S512x128 .f32) (main_arg2 : FVec F S128x64 .f32) (main_arg3 : FVec F S128x64 .f32) (main_arg4 : FVec F S1749x256 .f32) (main_arg5 : FVec F S256 .f32) : IVec S_ 1 :=
  let main_c : IVec S_ 32 := constantI S_ 32 0#32
  let main_v0 : IVec S16384x40 32 := broadcastInDim S16384x40 ![] bcast_S_S16384x40 main_c
  let main_v1 : IVec S16384x40 1 := cmpi .sge main_arg0 main_v0
  let main_c_0 : IVec S_ 32 := constantI S_ 32 7#32
  let main_v2 : IVec S16384x40 32 := broadcastInDim S16384x40 ![] bcast_S_S16384x40 main_c_0
  let main_v3 : IVec S16384x40 1 := cmpi .slt main_arg0 main_v2
  let main_v4 : IVec S16384x40 1 := andi main_v1 main_v3
  let main_c_1 : IVec S_ 1 := constantI S_ 1 1#1
  let main_v5 : IVec S_ 1 := (fun x v => Host.reduce IntOp.andi x v reducesTo_S16384x40_S_d0_1 h_S_) main_v4 main_c_1
  main_v5
-- ==== Kernel.lean ====
abbrev S16384x40 : Shape := ⟨2, ![16384, 40]⟩
abbrev S512x128 : Shape := ⟨2, ![512, 128]⟩
abbrev S128x64 : Shape := ⟨2, ![128, 64]⟩
abbrev S1749x256 : Shape := ⟨2, ![1749, 256]⟩
abbrev S256 : Shape := ⟨1, ![256]⟩
abbrev S222 : Shape := ⟨1, ![222]⟩
abbrev S40x256 : Shape := ⟨2, ![40, 256]⟩
abbrev S_ : Shape := ⟨0, ![]⟩
abbrev S256x1749 : Shape := ⟨2, ![256, 1749]⟩
abbrev S222x1 : Shape := ⟨2, ![222, 1]⟩
abbrev S222x2 : Shape := ⟨2, ![222, 2]⟩
abbrev S7x128 : Shape := ⟨2, ![7, 128]⟩
abbrev S1 : Shape := ⟨1, ![1]⟩
abbrev S2 : Shape := ⟨1, ![2]⟩
abbrev S7x64 : Shape := ⟨2, ![7, 64]⟩
abbrev S1x256 : Shape := ⟨2, ![1, 256]⟩
abbrev S256x256 : Shape := ⟨2, ![256, 256]⟩
abbrev S16384x256 : Shape := ⟨2, ![16384, 256]⟩
abbrev S16384x1 : Shape := ⟨2, ![16384, 1]⟩
abbrev S16384 : Shape := ⟨1, ![16384]⟩
abbrev S2048x40 : Shape := ⟨2, ![2048, 40]⟩
abbrev S2048x256 : Shape := ⟨2, ![2048, 256]⟩
abbrev S2048x1 : Shape := ⟨2, ![2048, 1]⟩

abbrev nBuf : Space → Nat
  | .hbm => 59
  | .vmem => 13
  | .smem => 0
  | _ => 0

abbrev bufTy : (tb : Table) → Fin (tcTables nBuf tb) → BufTy
  | .hbm, ⟨0, _⟩ => ⟨S16384x40, .i32⟩
  | .hbm, ⟨1, _⟩ => ⟨S512x128, .f32⟩
  | .hbm, ⟨2, _⟩ => ⟨S128x64, .f32⟩
  | .hbm, ⟨3, _⟩ => ⟨S128x64, .f32⟩
  | .hbm, ⟨4, _⟩ => ⟨S1749x256, .f32⟩
  | .hbm, ⟨5, _⟩ => ⟨S256, .f32⟩
  | .hbm, ⟨6, _⟩ => ⟨S222, .i32⟩
  | .hbm, ⟨7, _⟩ => ⟨S222, .i1⟩
  | .hbm, ⟨8, _⟩ => ⟨S222, .i32⟩
  | .hbm, ⟨9, _⟩ => ⟨S222, .i1⟩
  | .hbm, ⟨10, _⟩ => ⟨S40x256, .f32⟩
  | .hbm, ⟨11, _⟩ => ⟨S256, .f32⟩
  | .hbm, ⟨12, _⟩ => ⟨S_, .f32⟩
  | .hbm, ⟨13, _⟩ => ⟨S256x1749, .f32⟩
  | .hbm, ⟨14, _⟩ => ⟨S_, .i32⟩
  | .hbm, ⟨15, _⟩ => ⟨S222, .i32⟩
  | .hbm, ⟨16, _⟩ => ⟨S222, .i32⟩
  | .hbm, ⟨17, _⟩ => ⟨S222, .i32⟩
  | .hbm, ⟨18, _⟩ => ⟨S_, .i32⟩
  | .hbm, ⟨19, _⟩ => ⟨S222, .i32⟩
  | .hbm, ⟨20, _⟩ => ⟨S222, .i32⟩
  | .hbm, ⟨21, _⟩ => ⟨S222, .i32⟩
  | .hbm, ⟨22, _⟩ => ⟨S222x1, .i32⟩
  | .hbm, ⟨23, _⟩ => ⟨S222x1, .i32⟩
  | .hbm, ⟨24, _⟩ => ⟨S222x2, .i32⟩
  | .hbm, ⟨25, _⟩ => ⟨S_, .f32⟩
  | .hbm, ⟨26, _⟩ => ⟨S222, .f32⟩
  | .hbm, ⟨27, _⟩ => ⟨S256x1749, .f32⟩
  | .hbm, ⟨28, _⟩ => ⟨S7x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S256x1749, .f32⟩
  | .hbm, ⟨35, _⟩ => ⟨S7x64, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S256x1749, .f32⟩
  | .hbm, ⟨42, _⟩ => ⟨S7x64, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S256x1749, .f32⟩
  | .hbm, ⟨49, _⟩ => ⟨S1x256, .f32⟩
  | .hbm, ⟨50, _⟩ => ⟨S256x256, .f32⟩
  | .hbm, ⟨51, _⟩ => ⟨S1x256, .f32⟩
  | .hbm, ⟨52, _⟩ => ⟨S16384x256, .f32⟩
  | .hbm, ⟨53, _⟩ => ⟨S16384x1, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S16384, .i1⟩
  | .local _ .vmem, ⟨0, _⟩ => ⟨S256x1749, .f32⟩
  | .local _ .vmem, ⟨1, _⟩ => ⟨S1749x256, .f32⟩
  | .local _ .vmem, ⟨2, _⟩ => ⟨S1x256, .f32⟩
  | .local _ .vmem, ⟨3, _⟩ => ⟨S256x256, .f32⟩
  | .local _ .vmem, ⟨4, _⟩ => ⟨S2048x40, .i32⟩
  | .local _ .vmem, ⟨5, _⟩ => ⟨S2048x40, .i32⟩
  | .local _ .vmem, ⟨6, _⟩ => ⟨S40x256, .f32⟩
  | .local _ .vmem, ⟨7, _⟩ => ⟨S1x256, .f32⟩
  | .local _ .vmem, ⟨8, _⟩ => ⟨S256x256, .f32⟩
  | .local _ .vmem, ⟨9, _⟩ => ⟨S2048x256, .f32⟩
  | .local _ .vmem, ⟨10, _⟩ => ⟨S2048x256, .f32⟩
  | .local _ .vmem, ⟨11, _⟩ => ⟨S2048x1, .i32⟩
  | .local _ .vmem, ⟨12, _⟩ => ⟨S2048x1, .i32⟩
  | _, _ => ⟨S16384x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_c_0 : Ref sig .tc := ⟨.hbm, 7, rfl⟩
abbrev main_call0_c_1 : Ref sig .tc := ⟨.hbm, 8, rfl⟩
abbrev main_call0_c_2 : Ref sig .tc := ⟨.hbm, 9, rfl⟩
abbrev main_call0_cst : Ref sig .tc := ⟨.hbm, 10, rfl⟩
abbrev main_call0_cst_3 : Ref sig .tc := ⟨.hbm, 11, rfl⟩
abbrev main_call0_cst_4 : Ref sig .tc := ⟨.hbm, 12, rfl⟩
abbrev main_call0_v0 : Ref sig .tc := ⟨.hbm, 13, rfl⟩
abbrev main_call0_c_5 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_c_6 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_cst_7 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_c_8 : Ref sig .tc := ⟨.hbm, 29, rfl⟩
abbrev main_call0_v13 : Ref sig .tc := ⟨.hbm, 30, rfl⟩
abbrev main_call0_c_9 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_c_10 : Ref sig .tc := ⟨.hbm, 36, rfl⟩
abbrev main_call0_v18 : Ref sig .tc := ⟨.hbm, 37, rfl⟩
abbrev main_call0_c_11 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_c_12 : Ref sig .tc := ⟨.hbm, 43, rfl⟩
abbrev main_call0_v23 : Ref sig .tc := ⟨.hbm, 44, rfl⟩
abbrev main_call0_c_13 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_v0_0 : Ref sig .tc := ⟨.hbm, 52, rfl⟩
abbrev main_call0_v30_1 : Ref sig .tc := ⟨.hbm, 53, rfl⟩
abbrev main_call0_v31 : Ref sig .tc := ⟨.hbm, 54, rfl⟩
abbrev main_call0_c_14 : Ref sig .tc := ⟨.hbm, 55, rfl⟩
abbrev main_call0_v32 : Ref sig .tc := ⟨.hbm, 56, rfl⟩
abbrev main_call0_v33 : Ref sig .tc := ⟨.hbm, 57, rfl⟩
abbrev main_v0_1 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S256x1749 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1749x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x40 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16384x40 : Shape := ⟨2, ![16384, 40]⟩
abbrev S512x128 : Shape := ⟨2, ![512, 128]⟩
abbrev S128x64 : Shape := ⟨2, ![128, 64]⟩
abbrev S1749x256 : Shape := ⟨2, ![1749, 256]⟩
abbrev S256 : Shape := ⟨1, ![256]⟩
abbrev S16384x1 : Shape := ⟨2, ![16384, 1]⟩
abbrev S16384 : Shape := ⟨1, ![16384]⟩
abbrev S16384x4 : Shape := ⟨2, ![16384, 4]⟩
abbrev S16384x4x1 : Shape := ⟨3, ![16384, 4, 1]⟩
abbrev S1x1x512 : Shape := ⟨3, ![1, 1, 512]⟩
abbrev S16384x4x512 : Shape := ⟨3, ![16384, 4, 512]⟩
abbrev S_ : Shape := ⟨0, ![]⟩
abbrev S16384x512 : Shape := ⟨2, ![16384, 512]⟩
abbrev S16384x9 : Shape := ⟨2, ![16384, 9]⟩
abbrev S4 : Shape := ⟨1, ![4]⟩
abbrev S16384x9x1 : Shape := ⟨3, ![16384, 9, 1]⟩
abbrev S1x1x4 : Shape := ⟨3, ![1, 1, 4]⟩
abbrev S16384x9x4 : Shape := ⟨3, ![16384, 9, 4]⟩
abbrev S16384x36 : Shape := ⟨2, ![16384, 36]⟩
abbrev S16384x33 : Shape := ⟨2, ![16384, 33]⟩
abbrev S16384x7 : Shape := ⟨2, ![16384, 7]⟩
abbrev S16384x7x1 : Shape := ⟨3, ![16384, 7, 1]⟩
abbrev S1x1x13 : Shape := ⟨3, ![1, 1, 13]⟩
abbrev S16384x7x13 : Shape := ⟨3, ![16384, 7, 13]⟩
abbrev S16384x91 : Shape := ⟨2, ![16384, 91]⟩
abbrev S16384x128 : Shape := ⟨2, ![16384, 128]⟩
abbrev S16384x64 : Shape := ⟨2, ![16384, 64]⟩
abbrev S1x512 : Shape := ⟨2, ![1, 512]⟩
abbrev S1x128 : Shape := ⟨2, ![1, 128]⟩
abbrev S1x11 : Shape := ⟨2, ![1, 11]⟩
abbrev S16384x11 : Shape := ⟨2, ![16384, 11]⟩
abbrev S1x32 : Shape := ⟨2, ![1, 32]⟩
abbrev S16384x32 : Shape := ⟨2, ![16384, 32]⟩
abbrev S1x4 : Shape := ⟨2, ![1, 4]⟩
abbrev S1x8 : Shape := ⟨2, ![1, 8]⟩
abbrev S16384x8 : Shape := ⟨2, ![16384, 8]⟩
abbrev S1x16 : Shape := ⟨2, ![1, 16]⟩
abbrev S16384x16 : Shape := ⟨2, ![16384, 16]⟩
abbrev S1x2 : Shape := ⟨2, ![1, 2]⟩
abbrev S16384x2 : Shape := ⟨2, ![16384, 2]⟩
abbrev S16384x1654 : Shape := ⟨2, ![16384, 1654]⟩
abbrev S16384x95 : Shape := ⟨2, ![16384, 95]⟩
abbrev S16384x1749 : Shape := ⟨2, ![16384, 1749]⟩
abbrev S16384x256 : Shape := ⟨2, ![16384, 256]⟩
abbrev S1x256 : Shape := ⟨2, ![1, 256]⟩

abbrev nBuf : Space → Nat
  | .hbm => 208
  | .vmem => 0
  | .smem => 0
  | _ => 0

abbrev hbmTy0_0 (i : Nat) : BufTy := match i % 128 with
  | 0 => ⟨S16384x40, .i32⟩
  | 1 => ⟨S512x128, .f32⟩
  | 2 => ⟨S128x64, .f32⟩
  | 3 => ⟨S128x64, .f32⟩
  | 4 => ⟨S1749x256, .f32⟩
  | 5 => ⟨S256, .f32⟩
  | 6 => ⟨S16384x1, .i32⟩
  | 7 => ⟨S16384, .i32⟩
  | 8 => ⟨S16384x1, .i32⟩
  | 9 => ⟨S16384, .i32⟩
  | 10 => ⟨S16384x1, .i32⟩
  | 11 => ⟨S16384, .i32⟩
  | 12 => ⟨S16384x4, .i32⟩
  | 13 => ⟨S16384x4x1, .i32⟩
  | 14 => ⟨S1x1x512, .i32⟩
  | 15 => ⟨S16384x4x512, .i32⟩
  | 16 => ⟨S16384x4x512, .i32⟩
  | 17 => ⟨S16384x4x512, .i1⟩
  | 18 => ⟨S16384x4x512, .f32⟩
  | 19 => ⟨S_, .f32⟩
  | 20 => ⟨S16384x512, .f32⟩
  | 21 => ⟨S16384x9, .i32⟩
  | 22 => ⟨S4, .i32⟩
  | 23 => ⟨S_, .i32⟩
  | 24 => ⟨S4, .i32⟩
  | 25 => ⟨S4, .i32⟩
  | 26 => ⟨S16384x9x1, .i32⟩
  | 27 => ⟨S1x1x4, .i32⟩
  | 28 => ⟨S16384x9x4, .i32⟩
  | 29 => ⟨S16384x9x4, .i32⟩
  | 30 => ⟨S16384x9x4, .i32⟩
  | 31 => ⟨S_, .i32⟩
  | 32 => ⟨S16384x9x4, .i32⟩
  | 33 => ⟨S16384x9x4, .i1⟩
  | 34 => ⟨S16384x9x4, .f32⟩
  | 35 => ⟨S16384x36, .f32⟩
  | 36 => ⟨S16384x33, .f32⟩
  | 37 => ⟨S16384x7, .i32⟩
  | 38 => ⟨S_, .i32⟩
  | 39 => ⟨S16384x7, .i32⟩
  | 40 => ⟨S16384x7, .i32⟩
  | 41 => ⟨S16384x7x1, .i32⟩
  | 42 => ⟨S1x1x13, .i32⟩
  | 43 => ⟨S16384x7x13, .i32⟩
  | 44 => ⟨S16384x7x13, .i32⟩
  | 45 => ⟨S16384x7x13, .i1⟩
  | 46 => ⟨S16384x7x13, .f32⟩
  | 47 => ⟨S16384x91, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x128, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x64, .f32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384x64, .f32⟩
  | 75 => ⟨S16384x1, .i32⟩
  | 76 => ⟨S1x512, .i32⟩
  | 77 => ⟨S16384x512, .i32⟩
  | 78 => ⟨S16384x512, .i32⟩
  | 79 => ⟨S16384x512, .i1⟩
  | 80 => ⟨S16384x512, .f32⟩
  | 81 => ⟨S16384x1, .i32⟩
  | 82 => ⟨S1x128, .i32⟩
  | 83 => ⟨S16384x128, .i32⟩
  | 84 => ⟨S16384x128, .i32⟩
  | 85 => ⟨S16384x128, .i1⟩
  | 86 => ⟨S16384x128, .f32⟩
  | 87 => ⟨S16384x1, .i32⟩
  | 88 => ⟨S1x128, .i32⟩
  | 89 => ⟨S16384x128, .i32⟩
  | 90 => ⟨S16384x128, .i32⟩
  | 91 => ⟨S16384x128, .i1⟩
  | 92 => ⟨S16384x128, .f32⟩
  | 93 => ⟨S16384x1, .i32⟩
  | 94 => ⟨S16384, .i32⟩
  | 95 => ⟨S16384, .f32⟩
  | 96 => ⟨S16384, .f32⟩
  | 97 => ⟨S16384, .f32⟩
  | 98 => ⟨S16384, .i32⟩
  | 99 => ⟨S_, .i32⟩
  | 100 => ⟨S16384, .i32⟩
  | 101 => ⟨S16384, .i32⟩
  | 102 => ⟨S16384x1, .i32⟩
  | 103 => ⟨S1x11, .i32⟩
  | 104 => ⟨S16384x11, .i32⟩
  | 105 => ⟨S16384x11, .i32⟩
  | 106 => ⟨S16384x11, .i1⟩
  | 107 => ⟨S16384x11, .f32⟩
  | 108 => ⟨S16384x1, .i32⟩
  | 109 => ⟨S16384, .i32⟩
  | 110 => ⟨S16384, .f32⟩
  | 111 => ⟨S16384, .f32⟩
  | 112 => ⟨S16384, .f32⟩
  | 113 => ⟨S16384, .i32⟩
  | 114 => ⟨S_, .i32⟩
  | 115 => ⟨S16384, .i32⟩
  | 116 => ⟨S16384, .i32⟩
  | 117 => ⟨S16384x1, .i32⟩
  | 118 => ⟨S1x32, .i32⟩
  | 119 => ⟨S16384x32, .i32⟩
  | 120 => ⟨S16384x32, .i32⟩
  | 121 => ⟨S16384x32, .i1⟩
  | 122 => ⟨S16384x32, .f32⟩
  | 123 => ⟨S16384x1, .i32⟩
  | 124 => ⟨S16384, .i32⟩
  | 125 => ⟨S16384x1, .i32⟩
  | 126 => ⟨S1x4, .i32⟩
  | 127 => ⟨S16384x4, .i32⟩
  | _ => ⟨S16384x40, .i32⟩

abbrev hbmTy0_1 (i : Nat) : BufTy := match i % 128 with
  | 0 => ⟨S16384x4, .i32⟩
  | 1 => ⟨S16384x4, .i1⟩
  | 2 => ⟨S16384x4, .f32⟩
  | 3 => ⟨S16384x1, .i32⟩
  | 4 => ⟨S16384, .i32⟩
  | 5 => ⟨S16384x1, .i32⟩
  | 6 => ⟨S1x8, .i32⟩
  | 7 => ⟨S16384x8, .i32⟩
  | 8 => ⟨S16384x8, .i32⟩
  | 9 => ⟨S16384x8, .i1⟩
  | 10 => ⟨S16384x8, .f32⟩
  | 11 => ⟨S16384x1, .i32⟩
  | 12 => ⟨S16384, .i32⟩
  | 13 => ⟨S16384x1, .i32⟩
  | 14 => ⟨S1x16, .i32⟩
  | 15 => ⟨S16384x16, .i32⟩
  | 16 => ⟨S16384x16, .i32⟩
  | 17 => ⟨S16384x16, .i1⟩
  | 18 => ⟨S16384x16, .f32⟩
  | 19 => ⟨S16384x1, .i32⟩
  | 20 => ⟨S16384, .i32⟩
  | 21 => ⟨S16384x1, .i32⟩
  | 22 => ⟨S1x2, .i32⟩
  | 23 => ⟨S16384x2, .i32⟩
  | 24 => ⟨S16384x2, .i32⟩
  | 25 => ⟨S16384x2, .i1⟩
  | 26 => ⟨S16384x2, .f32⟩
  | 27 => ⟨S16384x1, .i32⟩
  | 28 => ⟨S16384, .i32⟩
  | 29 => ⟨S16384x1, .i32⟩
  | 30 => ⟨S1x8, .i32⟩
  | 31 => ⟨S16384x8, .i32⟩
  | 32 => ⟨S16384x8, .i32⟩
  | 33 => ⟨S16384x8, .i1⟩
  | 34 => ⟨S16384x8, .f32⟩
  | 35 => ⟨S16384x1, .i32⟩
  | 36 => ⟨S16384, .i32⟩
  | 37 => ⟨S16384x1, .i32⟩
  | 38 => ⟨S1x4, .i32⟩
  | 39 => ⟨S16384x4, .i32⟩
  | 40 => ⟨S16384x4, .i32⟩
  | 41 => ⟨S16384x4, .i1⟩
  | 42 => ⟨S16384x4, .f32⟩
  | 43 => ⟨S16384x1, .i32⟩
  | 44 => ⟨S16384, .i32⟩
  | 45 => ⟨S16384x1, .i32⟩
  | 46 => ⟨S1x2, .i32⟩
  | 47 => ⟨S16384x2, .i32⟩
  | 48 => ⟨S16384x2, .i32⟩
  | 49 => ⟨S16384x2, .i1⟩
  | 50 => ⟨S16384x2, .f32⟩
  | 51 => ⟨S16384x1, .i32⟩
  | 52 => ⟨S16384, .i32⟩
  | 53 => ⟨S16384x1, .i32⟩
  | 54 => ⟨S1x2, .i32⟩
  | 55 => ⟨S16384x2, .i32⟩
  | 56 => ⟨S16384x2, .i32⟩
  | 57 => ⟨S16384x2, .i1⟩
  | 58 => ⟨S16384x2, .f32⟩
  | 59 => ⟨S16384x1654, .f32⟩
  | 60 => ⟨S16384x95, .f32⟩
  | 61 => ⟨S16384x1749, .f32⟩
  | 62 => ⟨S16384x256, .f32⟩
  | 63 => ⟨S1x256, .f32⟩
  | 64 => ⟨S16384x256, .f32⟩
  | 65 => ⟨S16384x256, .f32⟩
  | 66 => ⟨S_, .i32⟩
  | 67 => ⟨S16384, .i32⟩
  | 68 => ⟨S16384, .i1⟩
  | 69 => ⟨S_, .i32⟩
  | 70 => ⟨S16384, .i32⟩
  | 71 => ⟨S16384, .i1⟩
  | 72 => ⟨S16384, .i1⟩
  | 73 => ⟨S16384, .i1⟩
  | 74 => ⟨S16384x1, .i1⟩
  | 75 => ⟨S_, .i32⟩
  | 76 => ⟨S_, .f32⟩
  | 77 => ⟨S16384x256, .i1⟩
  | 78 => ⟨S16384x256, .f32⟩
  | 79 => ⟨S16384x256, .f32⟩
  | _ => ⟨S16384x40, .i32⟩

abbrev hbmTy (i : Nat) : BufTy := match i / 128 with
  | 0 => hbmTy0_0 i
  | 1 => hbmTy0_1 i
  | _ => ⟨S16384x40, .i32⟩

abbrev bufTy : (tb : Table) → Fin (tcTables nBuf tb) → BufTy
  | .hbm, ⟨i, _⟩ => hbmTy i
  | _, _ => ⟨S16384x40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v49 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v50 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_8 : Ref sig .tc := ⟨.hbm, 99, rfl⟩
abbrev main_v58 : Ref sig .tc := ⟨.hbm, 100, rfl⟩
abbrev main_v59 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_9 : Ref sig .tc := ⟨.hbm, 114, rfl⟩
abbrev main_v67 : Ref sig .tc := ⟨.hbm, 115, rfl⟩
abbrev main_v68 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_call8_v0 : Ref sig .tc := ⟨.hbm, 133, rfl⟩
abbrev main_call8_v1 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_call9_v0 : Ref sig .tc := ⟨.hbm, 141, rfl⟩
abbrev main_call9_v1 : Ref sig .tc := ⟨.hbm, 142, rfl⟩
abbrev main_call9_v2 : Ref sig .tc := ⟨.hbm, 143, rfl⟩
abbrev main_call9_v3 : Ref sig .tc := ⟨.hbm, 144, rfl⟩
abbrev main_call9_v4 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_call10_v0 : Ref sig .tc := ⟨.hbm, 149, rfl⟩
abbrev main_call10_v1 : Ref sig .tc := ⟨.hbm, 150, rfl⟩
abbrev main_call10_v2 : Ref sig .tc := ⟨.hbm, 151, rfl⟩
abbrev main_call10_v3 : Ref sig .tc := ⟨.hbm, 152, rfl⟩
abbrev main_call10_v4 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_call11_v0 : Ref sig .tc := ⟨.hbm, 157, rfl⟩
abbrev main_call11_v1 : Ref sig .tc := ⟨.hbm, 158, rfl⟩
abbrev main_call11_v2 : Ref sig .tc := ⟨.hbm, 159, rfl⟩
abbrev main_call11_v3 : Ref sig .tc := ⟨.hbm, 160, rfl⟩
abbrev main_call11_v4 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_call12_v0 : Ref sig .tc := ⟨.hbm, 165, rfl⟩
abbrev main_call12_v1 : Ref sig .tc := ⟨.hbm, 166, rfl⟩
abbrev main_call12_v2 : Ref sig .tc := ⟨.hbm, 167, rfl⟩
abbrev main_call12_v3 : Ref sig .tc := ⟨.hbm, 168, rfl⟩
abbrev main_call12_v4 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_call13_v0 : Ref sig .tc := ⟨.hbm, 173, rfl⟩
abbrev main_call13_v1 : Ref sig .tc := ⟨.hbm, 174, rfl⟩
abbrev main_call13_v2 : Ref sig .tc := ⟨.hbm, 175, rfl⟩
abbrev main_call13_v3 : Ref sig .tc := ⟨.hbm, 176, rfl⟩
abbrev main_call13_v4 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_call14_v0 : Ref sig .tc := ⟨.hbm, 181, rfl⟩
abbrev main_call14_v1 : Ref sig .tc := ⟨.hbm, 182, rfl⟩
abbrev main_call14_v2 : Ref sig .tc := ⟨.hbm, 183, rfl⟩
abbrev main_call14_v3 : Ref sig .tc := ⟨.hbm, 184, rfl⟩
abbrev main_call14_v4 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_c_10 : Ref sig .tc := ⟨.hbm, 194, rfl⟩
abbrev main_v101 : Ref sig .tc := ⟨.hbm, 195, rfl⟩
abbrev main_v102 : Ref sig .tc := ⟨.hbm, 196, rfl⟩
abbrev main_c_11 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_c_12 : Ref sig .tc := ⟨.hbm, 203, rfl⟩
abbrev main_call15_v0 : Ref sig .tc := ⟨.hbm, 204, rfl⟩
abbrev main_call15_v1 : Ref sig .tc := ⟨.hbm, 205, rfl⟩
abbrev main_call15_v2 : Ref sig .tc := ⟨.hbm, 206, rfl⟩
abbrev main_v108 : Ref sig .tc := ⟨.hbm, 207, rfl⟩

abbrev nD : Nat := 1
abbrev τ : Topo := Topo.v7x

variable {F : FTy → Type} [FloatOps F]
-- ==== Proof.Enc.Run.lean ====
/- The kernel's run over any float instance: each result ends at the contents the program's last stretch leaves, and
   the arguments end unchanged. The launch is the frame's; only the statement read off its end differs. -/
module

public import proofs.«01_k».proof.Proof.Gen.KernelIdeal.Frame

@[expose] public section

set_option maxRecDepth 16384

noncomputable section

namespace Cert.KernelIdeal.Enc

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two results at the last boundary's contents and the arguments as launched. -/
theorem run_last : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v0_0 (by decide)), h c _ (mem_uc main_v0_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Enc
-- ==== Proof.Enc.Scatter.lean ====
/- Overwriting a rectangle of a matrix at one pair of index words, and single entries at a list of pairs, read at an
   entry. Nothing here names a program. -/
module

public import Idealize.ShloMosaic.Lib.Routing.OpsOne

@[expose] public section

namespace Cert.Enc

open Idealize.ShloMosaic Idealize.ShloMosaic.ValueIdx Idealize.ShloMosaic.Routing

variable {α : Type} {R C U W : Nat}

/-- Update `(a, b)` of a rectangle written at the pair of words `(p, q)` lands at `(r, c)` exactly when `p + a = r` and
    `q + b = c`. -/
theorem lands_rect (d : ScatterDims (shape2 R C) (shape1 2) (shape2 U W)) (huw : d.updateWindowDims = [0, 1])
    (hiw : d.insertedWindowDims = []) (hsd : d.scatterDimsToOperandDims = [0, 1]) (hivd : d.indexVectorDim = 0)
    (idx : IVec (shape1 2) 32) (p q : Nat) (hp : (idx (ix1 (0 : Fin 2))).toInt = p) (hq : (idx (ix1 (1 : Fin 2))).toInt = q)
    (k : (shape2 U W).Idx) (r : Fin R) (c : Fin C) :
    d.resultIdx? k idx = some (ix2 r c) ↔ p + (k 0).val = r.val ∧ q + (k 1).val = c.val := by
  have hkept : d.sKept = [0, 1] := by
    show (shape2 R C).kept d.insertedWindowDims = _
    rw [hiw]
    rfl
  have hw : ∀ a : Fin 2, d.window k a = (k a).val := fun a => by
    have hm : a ∈ d.sKept := by rw [hkept]; fin_cases a <;> simp
    unfold ScatterDims.window
    rw [dif_pos hm]
    have e : d.updateWindowDims[d.sKept.idxOf a]'(by rw [d.window_length]; exact List.idxOf_lt_length_iff.2 hm) = a := by
      simp only [huw, hkept]
      fin_cases a <;> rfl
    rw [e]
  rw [resultIdx?_ix2, start_pair d hsd hivd, start_pair d hsd hivd, hp, hq, hw, hw]
  omega

/-- The matrix with the rectangle at `(p, q)` overwritten, read at `(r, c)`. -/
theorem scatter_rect (d : ScatterDims (shape2 R C) (shape1 2) (shape2 U W)) (huw : d.updateWindowDims = [0, 1])
    (hiw : d.insertedWindowDims = []) (hsd : d.scatterDimsToOperandDims = [0, 1]) (hivd : d.indexVectorDim = 0)
    (idx : IVec (shape1 2) 32) (p q : Nat) (hp : (idx (ix1 (0 : Fin 2))).toInt = p) (hq : (idx (ix1 (1 : Fin 2))).toInt = q)
    (x : (shape2 R C).Idx → α) (upd : (shape2 U W).Idx → α) (r : Fin R) (c : Fin C) :
    Host.scatter d (fun _ b => b) x idx upd (ix2 r c)
      = if h : (p ≤ r.val ∧ r.val < p + U) ∧ q ≤ c.val ∧ c.val < q + W then
          upd (ix2 ⟨r.val - p, by omega⟩ ⟨c.val - q, by omega⟩)
        else x (ix2 r c) := by
  have lands := lands_rect d huw hiw hsd hivd idx p q hp hq
  split
  case isTrue h =>
    refine scatter_set_hit d x idx upd _ _ (fun k hk => congrArg upd ?_) (ix2 ⟨r.val - p, by omega⟩ ⟨c.val - q, by omega⟩)
      ((lands _ r c).mpr ⟨?_, ?_⟩)
    · obtain ⟨h0, h1⟩ := (lands k r c).mp hk
      funext a
      apply Fin.ext
      match a with
      | ⟨0, _⟩ => show (k 0).val = r.val - p; omega
      | ⟨1, _⟩ => show (k 1).val = c.val - q; omega
    · show p + (r.val - p) = r.val; omega
    · show q + (c.val - q) = c.val; omega
  case isFalse h =>
    refine scatter_set_miss d x idx upd _ fun k hk => h ?_
    obtain ⟨h0, h1⟩ := (lands k r c).mp hk
    have l0 := idx2_lt0 k
    have l1 := idx2_lt1 k
    omega

/-- Update `u` of a list of single entries written at pairs of words lands at `(r, c)` exactly when its two words, read
    signed, are `r` and `c`. -/
theorem lands_point (d : ScatterDims (shape2 R C) (shape2 U 2) (shape1 U))
    (hiw : d.insertedWindowDims = [0, 1]) (hsd : d.scatterDimsToOperandDims = [0, 1]) (hivd : d.indexVectorDim = 1)
    (idx : IVec (shape2 U 2) 32) (u : Fin U) (r : Fin R) (c : Fin C) :
    d.resultIdx? (ix1 u) idx = some (ix2 r c) ↔
      (idx (ix2 u (0 : Fin 2))).toInt = r.val ∧ (idx (ix2 u (1 : Fin 2))).toInt = c.val := by
  have hwin : ∀ q : Fin 2, d.window (ix1 u) q = 0 := fun q => by
    unfold ScatterDims.window
    rw [dif_neg fun h => (of_decide_eq_true (List.mem_filter.1 h).2) (by rw [hiw]; fin_cases q <;> simp)]
  have hstart : ∀ q : Fin 2, d.start (ix1 u) idx q = (idx (ix2 u q)).toInt := fun q => by
    have hm : q ∈ d.scatterDimsToOperandDims := by rw [hsd]; fin_cases q <;> simp
    have hsi : d.siIdx (ix1 u) ⟨d.scatterDimsToOperandDims.idxOf q, List.idxOf_lt_length_iff.2 hm⟩ = ix2 u q := by
      funext b'
      apply Fin.ext
      match b' with
      | ⟨0, _⟩ =>
        unfold ScatterDims.siIdx
        rw [dif_neg (by rw [hivd]; simp)]
        exact congrArg (fun t => ((ix1 u : (shape1 U).Idx) t).val) (Subsingleton.elim (α := Fin 1) _ 0)
      | ⟨1, _⟩ =>
        unfold ScatterDims.siIdx
        rw [dif_pos (by rw [hivd])]
        show List.idxOf q d.scatterDimsToOperandDims = q.val
        rw [hsd]
        fin_cases q <;> rfl
    unfold ScatterDims.start
    rw [dif_pos hm, hsi]
  rw [resultIdx?_ix2, hstart, hstart, hwin, hwin]
  omega

/-- A matrix with one value `v` written at a list of entries, read at `(r, c)`: `v` where the list holds that pair. -/
theorem scatter_points (d : ScatterDims (shape2 R C) (shape2 U 2) (shape1 U))
    (hiw : d.insertedWindowDims = [0, 1]) (hsd : d.scatterDimsToOperandDims = [0, 1]) (hivd : d.indexVectorDim = 1)
    (idx : IVec (shape2 U 2) 32) (x : (shape2 R C).Idx → α) (upd : (shape1 U).Idx → α) (v : α) (hv : ∀ k, upd k = v)
    (r : Fin R) (c : Fin C) [Decidable (∃ u : Fin U, (idx (ix2 u (0 : Fin 2))).toInt = r.val ∧ (idx (ix2 u (1 : Fin 2))).toInt = c.val)] :
    Host.scatter d (fun _ b => b) x idx upd (ix2 r c)
      = if ∃ u : Fin U, (idx (ix2 u (0 : Fin 2))).toInt = r.val ∧ (idx (ix2 u (1 : Fin 2))).toInt = c.val then v else x (ix2 r c) := by
  have lands := lands_point d hiw hsd hivd idx
  split
  case isTrue h =>
    obtain ⟨u, hu⟩ := h
    exact scatter_set_hit d x idx upd _ _ (fun k _ => hv k) (ix1 u) ((lands u r c).mpr hu)
  case isFalse h =>
    refine scatter_set_miss d x idx upd _ fun k hk => h ⟨k 0, (lands (k 0) r c).mp ?_⟩
    exact (congrArg (fun t => d.resultIdx? t idx) (eq_ix1 k).symm).trans hk

end Cert.Enc
-- ==== Proof.Enc.Host.lean ====
/- What the kernel's own host operations around its two pallas_calls hold, read at an element. -/
module

public import proofs.«01_k».proof.Proof.Gen.KernelIdeal.Frame
public import proofs.«01_k».proof.Proof.Enc.Scatter
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Enc

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

/-- The pair of index words of a scatter. -/
abbrev pairOf (p q : BitVec 32) : IVec S2 32 :=
  concatenate S2 0 [⟨S1, (broadcastInDim S1 ![] bcast_S_S1 (constantI S_ 32 p) : IVec S1 32)⟩, ⟨S1, (broadcastInDim S1 ![] bcast_S_S1 (constantI S_ 32 q) : IVec S1 32)⟩]
    concatenates_S1_S1_S2_d0

/-- The first of a pair of start indices. -/
theorem pair_fst (p q : BitVec 32) : pairOf p q (ix1 (0 : Fin 2)) = p := by
  unfold pairOf
  rw [concatenate_pair_apply_left (t := S2) (s₁ := S1) (s₂ := S1) 0 _ _ _ (ix1 (0 : Fin 2)) rfl (ix1 (0 : Fin 1)) (fun b => by fin_cases b; rfl)]
  rfl

/-- The second of a pair of start indices. -/
theorem pair_snd (p q : BitVec 32) : pairOf p q (ix1 (1 : Fin 2)) = q := by
  unfold pairOf
  rw [concatenate_pair_apply_right (t := S2) (s₁ := S1) (s₂ := S1) 0 _ _ _ (ix1 (1 : Fin 2)) rfl rfl (ix1 (0 : Fin 1)) (fun b hb => by fin_cases b; exact absurd rfl hb) rfl]
  rfl

/-- The constant's list of index words as a vector, after the wrapping of negative words, which a constant `false`
    leaves out. -/
abbrev wordsOf (l : Fin 222 → BitVec 32) (n : BitVec 32) : IVec S222 32 :=
  select (constantI S222 1 0#1) (addi (fun i => l (S222.rowMajor i)) (broadcastInDim S222 ![] bcast_S_S222 (constantI S_ 32 n)))
    (fun i => l (S222.rowMajor i))

/-- The pairs of index words at which the slot matrix holds a one. -/
abbrev marks : IVec S222x2 32 :=
  concatenate S222x2 1 [⟨S222x1, (broadcastInDim S222x1 ![0] bcast_S222_S222x1_0 (wordsOf lit0 256#32) : IVec S222x1 32)⟩,
    ⟨S222x1, (broadcastInDim S222x1 ![0] bcast_S222_S222x1_0 (wordsOf lit1 1749#32) : IVec S222x1 32)⟩] concatenates_S222x1_S222x1_S222x2_d1

/-- An index word of one of the two lists, as a column. -/
theorem mark_column (l : Fin 222 → BitVec 32) (n : BitVec 32) (u : Fin 222) :
    (broadcastInDim S222x1 ![0] bcast_S222_S222x1_0 (wordsOf l n) : IVec S222x1 32) (ix2 u (0 : Fin 1)) = l u := by
  rw [broadcastInDim_apply ![0] _ _ (ix2 u (0 : Fin 1)) (ix1 u) (fun a => by
    match a with
    | ⟨0, _⟩ => exact (if_neg (show ¬(222 = 1) by decide)).symm)]
  show l (S222.rowMajor (ix1 u)) = l u
  exact congrArg l (Fin.ext (Shape.rowMajor_val_one _))

/-- The slot of pair `u`. -/
theorem mark_slot (u : Fin 222) : marks (ix2 u (0 : Fin 2)) = lit0 u := by
  unfold marks
  rw [concatenate_pair_apply_left (t := S222x2) (s₁ := S222x1) (s₂ := S222x1) 1 _ _ _ (ix2 u (0 : Fin 2)) rfl (ix2 u (0 : Fin 1))
    (fun b => by fin_cases b <;> rfl)]
  exact mark_column lit0 256#32 u

/-- The weight row of pair `u`. -/
theorem mark_row (u : Fin 222) : marks (ix2 u (1 : Fin 2)) = lit1 u := by
  unfold marks
  rw [concatenate_pair_apply_right (t := S222x2) (s₁ := S222x1) (s₂ := S222x1) 1 _ _ _ (ix2 u (1 : Fin 2)) rfl rfl (ix2 u (0 : Fin 1))
    (fun b hb => by fin_cases b; · rfl
                    · exact absurd rfl hb) rfl]
  exact mark_column lit1 1749#32 u

/-- The static slot matrix: zeros, with a one at each pair. -/
abbrev slots : FVec Ideal S256x1749 .f32 :=
  Host.scatter scatter_S256x1749_S222x2_S222_n_01_01_1 (fun _ b => b)
    (broadcastInDim S256x1749 ![] bcast_S_S256x1749 (constant S_ .f32 0x00000000#32) : FVec Ideal S256x1749 .f32) marks
    (broadcastInDim S222 ![] bcast_S_S222 (constant S_ .f32 0x3F800000#32) : FVec Ideal S222 .f32)

/-- The table that the first call multiplies with the weights: the static one with the first seven rows of the
    three embeddings written into it. -/
def cmatOf (A1 : FVec Ideal S512x128 .f32) (A2 A3 : FVec Ideal S128x64 .f32) : FVec Ideal S256x1749 .f32 :=
  Host.scatter scatter_S256x1749_S2_S7x64_01_n_01_0 (fun _ b => b)
    (Host.scatter scatter_S256x1749_S2_S7x64_01_n_01_0 (fun _ b => b)
      (Host.scatter scatter_S256x1749_S2_S7x128_01_n_01_0 (fun _ b => b)
        slots (pairOf 0#32 0#32)
        (extractStridedSlice S7x128 ![0, 0] A1 slices_S512x128_S7x128_0_0))
      (pairOf 7#32 128#32) (extractStridedSlice S7x64 ![0, 0] A2 slices_S128x64_S7x64_0_0))
    (pairOf 14#32 192#32) (extractStridedSlice S7x64 ![0, 0] A3 slices_S128x64_S7x64_0_0)

/-- The first call's first operand: the static slot matrix with the three blocks of table rows set. -/
theorem host_cmat : V1 m ρ c main_call0_v26 = cmatOf (m ((c : Thread nD τ).loc main_arg1)) (m ((c : Thread nD τ).loc main_arg2))
    (m ((c : Thread nD τ).loc main_arg3)) := by
  show after hostOps0 (W0 m ρ c) (Proc.devRef .tc main_call0_v26) = _
  after_results
  simp only [TRef.ofBuf_toBuf]
  simp -implicitDefEqProofs only [TRef.toBuf, TRef.ofBuf, cast_eq]
  rfl

/-- The first call's bias operand is the bias as a row. -/
theorem host_bias : V1 m ρ c main_call0_v27 = shapeCast S1x256 (m ((c : Thread nD τ).loc main_arg5)) shapeCasts_S256_S1x256 := by
  show after hostOps0 (W0 m ρ c) (Proc.devRef .tc main_call0_v27) = _
  after_results
  rfl

/-- The first call's weights are the argument. -/
theorem host_weights : V1 m ρ c main_arg4 = m ((c : Thread nD τ).loc main_arg4) := by
  show after hostOps0 (W0 m ρ c) (Proc.devRef .tc main_arg4) = _
  after_results

end Cert.KernelIdeal.Enc
-- ==== Proof.Enc.Payload.lean ====
/- What one block of the kernel's two pallas_calls computes, read at an element over the extended reals. -/
module

public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace Cert.KernelIdeal.Enc

open Cert.KernelIdeal Cert.KernelIdeal.Gen Idealize.ShloMosaic Idealize.ShloMosaic.ValueIdx

/-- A one-bit word as the float the kernel converts it to. -/
def bit (b : BitVec 1) : EReal := (((b.setWidth 32).toInt : ℝ) : EReal)

/-- The clear bit counts zero. -/
theorem bit_zero : bit 0#1 = 0 := by simp [bit]
/-- The set bit counts one. -/
theorem bit_one : bit 1#1 = 1 := by simp [bit]

/-- The bit of a proposition counts one where it holds. -/
theorem bit_ofBool (p : Prop) [Decidable p] : bit (BitVec.ofBool (decide p)) = if p then 1 else 0 := by
  by_cases h : p
  · rw [if_pos h, decide_eq_true h]; exact bit_one
  · rw [if_neg h, decide_eq_false h]; exact bit_zero

/-- The slot table's block at slot `k` and output `o`: the slot's row times the weights, and the bias in the first
    seven slots. -/
theorem tbl_apply (v0 : FVec Ideal S256x1749 .f32) (v2 : FVec Ideal S1749x256 .f32) (v9 : FVec Ideal S1x256 .f32)
    (k o : Fin 256) :
    k0_pay1 (F := Ideal) v0 v2 v9 (ix2 k o)
      = (∑ j : Fin 1749, v0 (ix2 k j) * v2 (ix2 j o)) + (if k.val < 7 then 1 else 0) * v9 (ix2 0 o) := by
  have hmm := Ideal.matmul_plain_apply (M := 256) (K := 1749) (N := 256) none v0 v2
    (constant S256x256 .f32 0x00000000#32) k o
  have hb : broadcastTo S256x256 v9 broadcasts_S1x256_S256x256 (ix2 k o) = v9 (ix2 0 o) :=
    broadcastTo_apply _ _ _ _ fun a => match a with | ⟨0, _⟩ => rfl | ⟨1, _⟩ => rfl
  have hi : iota .tc S256x256 32 [0] iota_S256x256_d0_w32 (ix2 k o) = BitVec.ofNat 32 k.val :=
    iota_single_apply _ _ _ _ _ _
  have hc : ∀ k : Fin 256, IntOp.cmpi .slt (BitVec.ofNat 32 k.val) 7#32 = BitVec.ofBool (decide (k.val < 7)) := by
    decide +kernel
  unfold k0_pay1
  simp only [shapeCast_self]
  show FloatOps.matmul (DotDims.plain 256 1749 256) none v0 v2 (constant S256x256 .f32 0x00000000#32) (ix2 k o)
    + bit (IntOp.cmpi .slt (iota .tc S256x256 32 [0] iota_S256x256_d0_w32 (ix2 k o)) 7#32)
      * broadcastTo S256x256 v9 broadcasts_S1x256_S256x256 (ix2 k o) = _
  rw [hmm, hb, hi, hc, bit_ofBool]
  show (Ideal.ofBits .f32 0x00000000#32 + _) + _ = _
  rw [Ideal.ofBits_zero_f32, zero_add]

/-- The mask of an entity of species `s`, as a bit: neither 0 nor 1. -/
def maskBit (s : BitVec 32) : BitVec 1 := IntOp.xori (IntOp.ori (IntOp.cmpi .eq s 0#32) (IntOp.cmpi .eq s 1#32)) 1#1

/-- What the second call computes of one entity `e` at output `o`: the rows of the table `T` of the slots whose field's
    value, picked out by the selection `S`, is the slot's value, times the mask. -/
def entityOut (e : Fin 40 → BitVec 32) (S : Fin 40 → Fin 256 → EReal) (val : Fin 256 → EReal) (T : Fin 256 → EReal)
    (s : BitVec 32) : EReal :=
  (∑ k : Fin 256, (if (∑ c : Fin 40, (((e c).toInt : ℝ) : EReal) * S c k) = val k then 1 else 0) * T k) * bit (maskBit s)

/-- The second call's first result block at row `r` and output `o`. -/
theorem out_apply (v0 : IVec S2048x40 32) (v2 : FVec Ideal S40x256 .f32) (v4 : FVec Ideal S1x256 .f32)
    (v10 : FVec Ideal S256x256 .f32) (v13 : IVec S2048x1 32) (r : Fin 2048) (o : Fin 256) :
    k1_pay2 (F := Ideal) v0 v2 v4 v10 v13 (ix2 r o)
      = entityOut (fun c => v0 (ix2 r c)) (fun c k => v2 (ix2 c k)) (fun k => v4 (ix2 0 k)) (fun k => v10 (ix2 k o))
          (v13 (ix2 r 0)) := by
  have hg (k : Fin 256) := Ideal.matmul_plain_apply (M := 2048) (K := 40) (N := 256) none
    (sitofp (F := Ideal) .f32 v0) v2 (constant S2048x256 .f32 0x00000000#32) r k
  have hv (k : Fin 256) : broadcastTo S2048x256 v4 broadcasts_S1x256_S2048x256 (ix2 r k) = v4 (ix2 0 k) :=
    broadcastTo_apply _ _ _ _ fun a => match a with | ⟨0, _⟩ => rfl | ⟨1, _⟩ => rfl
  have hm (x : FVec Ideal S2048x1 .f32) : broadcastTo S2048x256 x broadcasts_S2048x1_S2048x256 (ix2 r o) = x (ix2 r 0) :=
    broadcastTo_apply _ _ _ _ fun a => match a with | ⟨0, _⟩ => rfl | ⟨1, _⟩ => rfl
  have ho (x : FVec Ideal S2048x256 .f32) := Ideal.matmul_plain_apply (M := 2048) (K := 256) (N := 256) none
    x v10 (constant S2048x256 .f32 0x00000000#32) r o
  have hz (j : S2048x256.Idx) : (constant (F := Ideal) S2048x256 .f32 0x00000000#32 : FVec Ideal S2048x256 .f32) j = (0 : EReal) :=
    Ideal.ofBits_zero_f32
  unfold k1_pay2
  simp only [shapeCast_self]
  show FloatOps.matmul (DotDims.plain 2048 256 256) none _ v10 (constant S2048x256 .f32 0x00000000#32) (ix2 r o)
    * broadcastTo S2048x256 _ broadcasts_S2048x1_S2048x256 (ix2 r o) = _
  rw [ho, hm]
  unfold entityOut
  refine congrArg₂ (· * ·) ?_ rfl
  rw [hz, zero_add]
  refine Finset.sum_congr rfl fun k _ => congrArg (· * _) ?_
  show bit (BitVec.ofBool (decide (FloatOps.matmul (DotDims.plain 2048 40 256) none (sitofp (F := Ideal) .f32 v0) v2
    (constant S2048x256 .f32 0x00000000#32) (ix2 r k) = broadcastTo S2048x256 v4 broadcasts_S1x256_S2048x256 (ix2 r k)))) = _
  rw [bit_ofBool, hg, hv, hz, zero_add]
  rfl

/-- The second call's second result block at row `r`. -/
theorem mask_apply (v13 : IVec S2048x1 32) (r : Fin 2048) :
    k1_pay3 (F := Ideal) v13 (ix2 r 0) = (maskBit (v13 (ix2 r 0))).setWidth 32 := rfl

end Cert.KernelIdeal.Enc
-- ==== Proof.Enc.Regions.lean ====
/- What the arrays hold after each of the kernel's two pallas_calls, from the contents `V` each is entered with. -/
module

public import proofs.«01_k».proof.Proof.Gen.KernelIdeal.Frame
public import proofs.«01_k».proof.Proof.Enc.Payload

@[expose] public section

set_option maxRecDepth 16384

noncomputable section

namespace Cert.KernelIdeal.Enc

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a matrix. -/
theorem hz2 : (![0, 0] : Fin 2 → Nat) = fun _ => 0 := funext fun a => by fin_cases a <;> rfl

/-! ## The slot table -/

/-- The first call's body leaves its payload of the three blocks. -/
theorem out0_eq (x0 : Vec Ideal S256x1749 .f32) (x1 : Vec Ideal S1749x256 .f32) (x2 : Vec Ideal S1x256 .f32) :
    out0_3 x0 x1 x2 = k0_pay1 x0 x1 x2 := by
  unfold out0_3
  rw [View.canon_unit_zero hz2, View.ld_unit_zero (S := S256x1749) hz2, View.ld_unit_zero (S := S1749x256) hz2,
    View.ld_unit_zero (S := S1x256) hz2]

/-- The first call's blocks all start at the origin. -/
theorem index0 : ∀ t : Fin cfg0.N, win0_0.index t 0 = 0 ∧ win0_0.index t 1 = 0 ∧ win0_1.index t 0 = 0
    ∧ win0_1.index t 1 = 0 ∧ win0_2.index t 0 = 0 ∧ win0_2.index t 1 = 0 ∧ win0_3.index t 0 = 0 ∧ win0_3.index t 1 = 0 :=
  (by decide +kernel : ∀ t : Fin grid0.N, win0_0.index t 0 = 0 ∧ win0_0.index t 1 = 0 ∧ win0_1.index t 0 = 0
    ∧ win0_1.index t 1 = 0 ∧ win0_2.index t 0 = 0 ∧ win0_2.index t 1 = 0 ∧ win0_3.index t 0 = 0 ∧ win0_3.index t 1 = 0)

/-- The first call's blocks are its whole arrays. -/
theorem iblk0_0 (c : Dev nD) (t : Fin cfg0.N) : (iblk0 V c 0 t : Vec Ideal S256x1749 .f32) = V c main_call0_v26 := by
  obtain ⟨h0, h1, -⟩ := index0 t
  funext j
  unfold iblk0
  rw [View.read_apply]
  show V c main_call0_v26 _ = V c main_call0_v26 j
  congr 1
  funext a
  apply Fin.ext
  match a with
  | ⟨0, _⟩ => show win0_0.index t 0 * 256 + 1 * (j 0).val = (j 0).val; rw [h0]; omega
  | ⟨1, _⟩ => show win0_0.index t 1 * 1749 + 1 * (j 1).val = (j 1).val; rw [h1]; omega

/-- The first call's weight block is the whole weight matrix. -/
theorem iblk0_1 (c : Dev nD) (t : Fin cfg0.N) : (iblk0 V c 1 t : Vec Ideal S1749x256 .f32) = V c main_arg4 := by
  obtain ⟨-, -, h0, h1, -⟩ := index0 t
  funext j
  unfold iblk0
  rw [View.read_apply]
  show V c main_arg4 _ = V c main_arg4 j
  congr 1
  funext a
  apply Fin.ext
  match a with
  | ⟨0, _⟩ => show win0_1.index t 0 * 1749 + 1 * (j 0).val = (j 0).val; rw [h0]; omega
  | ⟨1, _⟩ => show win0_1.index t 1 * 256 + 1 * (j 1).val = (j 1).val; rw [h1]; omega

/-- The first call's bias block is the whole bias row. -/
theorem iblk0_2 (c : Dev nD) (t : Fin cfg0.N) : (iblk0 V c 2 t : Vec Ideal S1x256 .f32) = V c main_call0_v27 := by
  obtain ⟨-, -, -, -, h0, h1, -⟩ := index0 t
  funext j
  unfold iblk0
  rw [View.read_apply]
  show V c main_call0_v27 _ = V c main_call0_v27 j
  congr 1
  funext a
  apply Fin.ext
  match a with
  | ⟨0, _⟩ => show win0_2.index t 0 * 1 + 1 * (j 0).val = (j 0).val; rw [h0]; omega
  | ⟨1, _⟩ => show win0_2.index t 1 * 256 + 1 * (j 1).val = (j 1).val; rw [h1]; omega

/-- The slot table as a whole array. -/
abbrev table (c : Dev nD) : Buf (Elt Ideal) ((c : Thread nD τ).loc main_call0_v28) :=
  k0_pay1 (F := Ideal) (V c main_call0_v26) (V c main_arg4) (V c main_call0_v27)

/-- The array index that the first call's block index `j` stands at is `j`. -/
theorem flushed0 (c : Dev nD) (t : Fin cfg0.N) :
    (dat0 V c).flushed 3 t = (win0_3.blk t).view.read (Elt Ideal) (table V c) := by
  obtain ⟨-, -, -, -, -, -, h0, h1⟩ := index0 t
  show (cfg0.win 3).cut (grid0.coords t) ((dat0 V c).after 3 t) = _
  rw [after0_3, out0_eq, iblk0_0, iblk0_1, iblk0_2]
  funext j
  rw [View.read_apply]
  show table V c _ = table V c _
  congr 1
  funext a
  apply Fin.ext
  match a with
  | ⟨0, _⟩ => show (j 0).val = win0_3.index t 0 * 256 + 1 * (j 0).val; rw [h0]; omega
  | ⟨1, _⟩ => show (j 1).val = win0_3.index t 1 * 256 + 1 * (j 1).val; rw [h1]; omega

/-- The first call's one block covers its array. -/
theorem cover0 (i : S256x256.Idx) :
    ∃ t : Fin cfg0.N, (cfg0.win 3).flush t = true ∧ i ∈ ((cfg0.win 3).blk t).view.set := by
  have hN : cfg0.N = 1 := N_0
  obtain ⟨t⟩ : Nonempty (Fin cfg0.N) := ⟨⟨0, by omega⟩⟩
  refine ⟨t, flush0_3 t, ?_⟩
  obtain ⟨-, -, -, -, -, -, h0, h1⟩ := index0 t
  show i ∈ ((View.whole main_call0_v28).slice (win0_3.rect t)).set
  rw [View.set_slice_whole, Rect.mem_set_unit]
  have l0 := idx2_lt0 i
  have l1 := idx2_lt1 i
  intro a
  match a with
  | ⟨0, _⟩ => show win0_3.index t 0 * 256 ≤ (i 0).val ∧ (i 0).val < win0_3.index t 0 * 256 + 256; rw [h0]; omega
  | ⟨1, _⟩ => show win0_3.index t 1 * 256 ≤ (i 1).val ∧ (i 1).val < win0_3.index t 1 * 256 + 256; rw [h1]; omega

/-- After the first call its result array is the slot table. -/
theorem final0 (c : Dev nD) : (dat0 V c).arrAt 3 cfg0.N = table V c :=
  (dat0 V c).arrAt_eq_of_cover 3 (table V c) (fun t _ => flushed0 V c t) cover0

/-! ## The encodings and the mask -/

/-- The second call's body leaves its two payloads of the four blocks; the species column is the first of the first block. -/
theorem col_eq (x0 : Vec Ideal S2048x40 .i32) (r : Fin 2048) :
    (View.ld x0 r1_4 : Vec Ideal S2048x1 .i32) (ix2 r 0) = x0 (ix2 r 0) := by
  show x0 _ = x0 _
  congr 1
  funext a
  apply Fin.ext
  match a with
  | ⟨0, _⟩ => show 0 + 1 * r.val = r.val; omega
  | ⟨1, _⟩ => rfl

/-- The second call's first block, as the body computes it. -/
theorem out1_eq (x0 : Vec Ideal S2048x40 .i32) (x1 : Vec Ideal S40x256 .f32) (x2 : Vec Ideal S1x256 .f32)
    (x3 : Vec Ideal S256x256 .f32) : out1_4 x0 x1 x2 x3 = k1_pay2 x0 x1 x2 x3 (View.ld x0 r1_4) := by
  unfold out1_4
  rw [View.canon_unit_zero hz2, View.ld_unit_zero (S := S2048x40) hz2, View.ld_unit_zero (S := S40x256) hz2,
    View.ld_unit_zero (S := S1x256) hz2, View.ld_unit_zero (S := S256x256) hz2]

/-- The second call's second block, as the body computes it. -/
theorem out2_eq (x0 : Vec Ideal S2048x40 .i32) (x1 : Vec Ideal S40x256 .f32) (x2 : Vec Ideal S1x256 .f32)
    (x3 : Vec Ideal S256x256 .f32) : out1_5 x0 x1 x2 x3 = k1_pay3 (F := Ideal) (View.ld x0 r1_4) := by
  unfold out1_5
  rw [View.canon_unit_zero hz2]

/-- Where the second call's blocks start at each step. -/
theorem index1 : ∀ t : Fin cfg1.N, (win1_0.index t 0 = t.val ∧ win1_0.index t 1 = 0) ∧ (win1_1.index t 0 = 0
    ∧ win1_1.index t 1 = 0) ∧ (win1_2.index t 0 = 0 ∧ win1_2.index t 1 = 0) ∧ (win1_3.index t 0 = 0 ∧ win1_3.index t 1 = 0)
    ∧ (win1_4.index t 0 = t.val ∧ win1_4.index t 1 = 0) ∧ (win1_5.index t 0 = t.val ∧ win1_5.index t 1 = 0) :=
  (by decide +kernel : ∀ t : Fin grid1.N, (win1_0.index t 0 = t.val ∧ win1_0.index t 1 = 0) ∧ (win1_1.index t 0 = 0
    ∧ win1_1.index t 1 = 0) ∧ (win1_2.index t 0 = 0 ∧ win1_2.index t 1 = 0) ∧ (win1_3.index t 0 = 0 ∧ win1_3.index t 1 = 0)
    ∧ (win1_4.index t 0 = t.val ∧ win1_4.index t 1 = 0) ∧ (win1_5.index t 0 = t.val ∧ win1_5.index t 1 = 0))

/-- A row of a block of 2048 rows, in the whole array. -/
abbrev rowAt (t : Fin cfg1.N) (r : Fin 2048) : Fin 16384 :=
  ⟨t.val * 2048 + r.val, by have := t.isLt; have h : cfg1.N = 8 := N_1; have := r.isLt; omega⟩

/-- Block `t` of the entities is their rows from `2048 t`. -/
theorem iblk1_0 (c : Dev nD) (t : Fin cfg1.N) (r : Fin 2048) (k : Fin 40) :
    (iblk1 V c 0 t : Vec Ideal S2048x40 .i32) (ix2 r k) = V c main_arg0 (ix2 (rowAt t r) k) := by
  obtain ⟨⟨h0, h1⟩, -⟩ := index1 t
  unfold iblk1
  rw [View.read_apply]
  show V c main_arg0 _ = V c main_arg0 _
  congr 1
  funext a
  apply Fin.ext
  match a with
  | ⟨0, _⟩ => show win1_0.index t 0 * 2048 + 1 * r.val = t.val * 2048 + r.val; rw [h0]; omega
  | ⟨1, _⟩ => show win1_0.index t 1 * 40 + 1 * k.val = k.val; rw [h1]; omega

/-- The second call's other inputs are whole arrays. -/
theorem iblk1_1 (c : Dev nD) (t : Fin cfg1.N) : (iblk1 V c 1 t : Vec Ideal S40x256 .f32) = V c main_call0_cst := by
  obtain ⟨-, ⟨h0, h1⟩, -⟩ := index1 t
  funext j
  unfold iblk1
  rw [View.read_apply]
  show V c main_call0_cst _ = V c main_call0_cst j
  congr 1
  funext a
  apply Fin.ext
  match a with
  | ⟨0, _⟩ => show win1_1.index t 0 * 40 + 1 * (j 0).val = (j 0).val; rw [h0]; omega
  | ⟨1, _⟩ => show win1_1.index t 1 * 256 + 1 * (j 1).val = (j 1).val; rw [h1]; omega

/-- The second call's value block is the whole value row. -/
theorem iblk1_2 (c : Dev nD) (t : Fin cfg1.N) : (iblk1 V c 2 t : Vec Ideal S1x256 .f32) = V c main_call0_v29 := by
  obtain ⟨-, -, ⟨h0, h1⟩, -⟩ := index1 t
  funext j
  unfold iblk1
  rw [View.read_apply]
  show V c main_call0_v29 _ = V c main_call0_v29 j
  congr 1
  funext a
  apply Fin.ext
  match a with
  | ⟨0, _⟩ => show win1_2.index t 0 * 1 + 1 * (j 0).val = (j 0).val; rw [h0]; omega
  | ⟨1, _⟩ => show win1_2.index t 1 * 256 + 1 * (j 1).val = (j 1).val; rw [h1]; omega

/-- The second call's table block is the whole table. -/
theorem iblk1_3 (c : Dev nD) (t : Fin cfg1.N) : (iblk1 V c 3 t : Vec Ideal S256x256 .f32) = V c main_call0_v28 := by
  obtain ⟨-, -, -, ⟨h0, h1⟩, -⟩ := index1 t
  funext j
  unfold iblk1
  rw [View.read_apply]
  show V c main_call0_v28 _ = V c main_call0_v28 j
  congr 1
  funext a
  apply Fin.ext
  match a with
  | ⟨0, _⟩ => show win1_3.index t 0 * 256 + 1 * (j 0).val = (j 0).val; rw [h0]; omega
  | ⟨1, _⟩ => show win1_3.index t 1 * 256 + 1 * (j 1).val = (j 1).val; rw [h1]; omega

/-- The encodings as a whole array: row `n` from the row `n` of the entities. -/
def encoded (c : Dev nD) : Buf (Elt Ideal) ((c : Thread nD τ).loc main_v0_0) := fun i =>
  entityOut (fun k => (V c main_arg0 : IVec S16384x40 32) (ix2 (i 0) k))
    (fun k s => (V c main_call0_cst : FVec Ideal S40x256 .f32) (ix2 k s))
    (fun s => (V c main_call0_v29 : FVec Ideal S1x256 .f32) (ix2 0 s))
    (fun s => (V c main_call0_v28 : FVec Ideal S256x256 .f32) (ix2 s (i 1)))
    ((V c main_arg0 : IVec S16384x40 32) (ix2 (i 0) 0))

/-- The mask words as a whole array. -/
def masked (c : Dev nD) : Buf (Elt Ideal) ((c : Thread nD τ).loc main_call0_v30_1) := fun i =>
  (maskBit ((V c main_arg0 : IVec S16384x40 32) (ix2 (i 0) 0))).setWidth 32

/-- What a step writes back of the embeddings is its block of `encoded`. -/
theorem flushed1 (c : Dev nD) (t : Fin cfg1.N) :
    (dat1 V c).flushed 4 t = (win1_4.blk t).view.read (Elt Ideal) (encoded V c) := by
  obtain ⟨-, -, -, -, ⟨h0, h1⟩, -⟩ := index1 t
  show (cfg1.win 4).cut (grid1.coords t) ((dat1 V c).after 4 t) = _
  rw [after1_4, out1_eq]
  funext j
  obtain ⟨r, o, rfl⟩ : ∃ (r : Fin 2048) (o : Fin 256), j = ix2 r o :=
    ⟨j 0, j 1, funext fun a => match a with | ⟨0, _⟩ => rfl | ⟨1, _⟩ => rfl⟩
  rw [View.read_apply]
  have hi : ((win1_4.blk t).view.emb (ix2 r o) : S16384x256.Idx) = ix2 (rowAt t r) o := by
    funext a
    apply Fin.ext
    match a with
    | ⟨0, _⟩ => show win1_4.index t 0 * 2048 + 1 * r.val = t.val * 2048 + r.val; rw [h0]; omega
    | ⟨1, _⟩ => show win1_4.index t 1 * 256 + 1 * o.val = o.val; rw [h1]; omega
  show k1_pay2 (F := Ideal) (iblk1 V c 0 t) (iblk1 V c 1 t) (iblk1 V c 2 t) (iblk1 V c 3 t)
    (View.ld (iblk1 V c 0 t : Vec Ideal S2048x40 .i32) r1_4) (ix2 r o) = encoded V c ((win1_4.blk t).view.emb (ix2 r o))
  rw [hi, out_apply, col_eq, iblk1_0]
  simp only [iblk1_0, iblk1_1, iblk1_2, iblk1_3]
  rfl

/-- What a step writes back of the mask is its block of `masked`. -/
theorem flushed2 (c : Dev nD) (t : Fin cfg1.N) :
    (dat1 V c).flushed 5 t = (win1_5.blk t).view.read (Elt Ideal) (masked V c) := by
  obtain ⟨-, -, -, -, -, ⟨h0, h1⟩⟩ := index1 t
  show (cfg1.win 5).cut (grid1.coords t) ((dat1 V c).after 5 t) = _
  rw [after1_5, out2_eq]
  funext j
  obtain ⟨r, rfl⟩ : ∃ (r : Fin 2048), j = ix2 r 0 :=
    ⟨j 0, funext fun a => match a with | ⟨0, _⟩ => rfl | ⟨1, _⟩ => Fin.ext (by have := idx2_lt1 j; show (j 1).val = 0; omega)⟩
  rw [View.read_apply]
  have hi : ((win1_5.blk t).view.emb (ix2 r 0) : S16384x1.Idx) = ix2 (rowAt t r) 0 := by
    funext a
    apply Fin.ext
    match a with
    | ⟨0, _⟩ => show win1_5.index t 0 * 2048 + 1 * r.val = t.val * 2048 + r.val; rw [h0]; omega
    | ⟨1, _⟩ => show win1_5.index t 1 * 1 + 1 * 0 = 0; rw [h1]
  show k1_pay3 (F := Ideal) (View.ld (iblk1 V c 0 t : Vec Ideal S2048x40 .i32) r1_4) (ix2 r 0)
    = masked V c ((win1_5.blk t).view.emb (ix2 r 0))
  rw [hi, mask_apply, col_eq, iblk1_0]
  rfl

/-- The point whose block holds row `n`. -/
theorem point_of_row (n : Nat) (hn : n < 16384) : ∃ t : Fin cfg1.N, t.val * 2048 ≤ n ∧ n < t.val * 2048 + 2048 := by
  have h : cfg1.N = 8 := N_1
  exact ⟨⟨n / 2048, by omega⟩, by show n / 2048 * 2048 ≤ n ∧ n < n / 2048 * 2048 + 2048; omega⟩

/-- Every entry of the embeddings lies in the block of one step. -/
theorem cover1 (i : S16384x256.Idx) :
    ∃ t : Fin cfg1.N, (cfg1.win 4).flush t = true ∧ i ∈ ((cfg1.win 4).blk t).view.set := by
  have l0 := idx2_lt0 i
  have l1 := idx2_lt1 i
  obtain ⟨t, ht⟩ := point_of_row (i 0).val l0
  refine ⟨t, flush1_4 t, ?_⟩
  obtain ⟨-, -, -, -, ⟨h0, h1⟩, -⟩ := index1 t
  show i ∈ ((View.whole main_v0_0).slice (win1_4.rect t)).set
  rw [View.set_slice_whole, Rect.mem_set_unit]
  intro a
  match a with
  | ⟨0, _⟩ => show win1_4.index t 0 * 2048 ≤ (i 0).val ∧ (i 0).val < win1_4.index t 0 * 2048 + 2048; rw [h0]; omega
  | ⟨1, _⟩ => show win1_4.index t 1 * 256 ≤ (i 1).val ∧ (i 1).val < win1_4.index t 1 * 256 + 256; rw [h1]; omega

/-- Every entry of the mask lies in the block of one step. -/
theorem cover2 (i : S16384x1.Idx) :
    ∃ t : Fin cfg1.N, (cfg1.win 5).flush t = true ∧ i ∈ ((cfg1.win 5).blk t).view.set := by
  have l0 := idx2_lt0 i
  have l1 := idx2_lt1 i
  obtain ⟨t, ht⟩ := point_of_row (i 0).val l0
  refine ⟨t, flush1_5 t, ?_⟩
  obtain ⟨-, -, -, -, -, ⟨h0, h1⟩⟩ := index1 t
  show i ∈ ((View.whole main_call0_v30_1).slice (win1_5.rect t)).set
  rw [View.set_slice_whole, Rect.mem_set_unit]
  intro a
  match a with
  | ⟨0, _⟩ => show win1_5.index t 0 * 2048 ≤ (i 0).val ∧ (i 0).val < win1_5.index t 0 * 2048 + 2048; rw [h0]; omega
  | ⟨1, _⟩ => show win1_5.index t 1 * 1 ≤ (i 1).val ∧ (i 1).val < win1_5.index t 1 * 1 + 1; rw [h1]; omega

/-- After the second call its first result is the encodings. -/
theorem final1 (c : Dev nD) : (dat1 V c).arrAt 4 cfg1.N = encoded V c :=
  (dat1 V c).arrAt_eq_of_cover 4 (encoded V c) (fun t _ => flushed1 V c t) cover1

/-- After the second call its second result is the mask words. -/
theorem final2 (c : Dev nD) : (dat1 V c).arrAt 5 cfg1.N = masked V c :=
  (dat1 V c).arrAt_eq_of_cover 5 (masked V c) (fun t _ => flushed2 V c t) cover2

end Cert.KernelIdeal.Enc
-- ==== Proof.Enc.Results.lean ====
/- The kernel's two results as functions of its arguments, read at an element. -/
module

public import proofs.«01_k».proof.Proof.Enc.Host
public import proofs.«01_k».proof.Proof.Enc.Regions
public import Idealize.ShloMosaic.Lib.ValueLayout
public import Idealize.ShloMosaic.Lib.ValueLayoutCasts

@[expose] public section

set_option maxRecDepth 16384

noncomputable section

namespace Cert.KernelIdeal.Enc

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

/-- The first call's result at slot `k` and output `o`, of the arguments. -/
def slotRow (A1 : FVec Ideal S512x128 .f32) (A2 A3 : FVec Ideal S128x64 .f32) (A4 : FVec Ideal S1749x256 .f32)
    (A5 : FVec Ideal S256 .f32) (k o : Fin 256) : EReal :=
  (∑ j : Fin 1749, cmatOf A1 A2 A3 (ix2 k j) * A4 (ix2 j o)) + (if k.val < 7 then 1 else 0) * A5 (ix1 o)

/-- The second call reads the entities as launched. -/
theorem entry_entities : V3 m ρ c main_arg0 = m ((c : Thread nD τ).loc main_arg0) :=
  W3_args m ρ c main_arg0 (by decide)

/-- The second call's selection matrix is the literal. -/
theorem entry_sel : V3 m ρ c main_call0_cst = (fun i => FloatOps.ofBits .f32 (lit2 (S40x256.rowMajor i)) : FVec Ideal S40x256 .f32) := by
  show W3 m ρ c (Proc.devRef .tc main_call0_cst) = _
  rw [W3_of m ρ c main_call0_cst (by decide), W2_of m ρ c main_call0_cst (by decide)]
  show after hostOps0 (W0 m ρ c) (Proc.devRef .tc main_call0_cst) = _
  after_results
  rfl

/-- The second call's value row is the literal. -/
theorem entry_val (k : Fin 256) :
    (V3 m ρ c main_call0_v29 : FVec Ideal S1x256 .f32) (ix2 0 k) = Ideal.ofBits .f32 (lit3 k) := by
  have h1 : W2 m ρ c (Proc.devRef .tc main_call0_cst_3)
      = (fun i => FloatOps.ofBits .f32 (lit3 (S256.rowMajor i)) : FVec Ideal S256 .f32) := by
    rw [W2_of m ρ c main_call0_cst_3 (by decide)]
    show after hostOps0 (W0 m ρ c) (Proc.devRef .tc main_call0_cst_3) = _
    after_results
    rfl
  have h2 : (V3 m ρ c main_call0_v29 : FVec Ideal S1x256 .f32)
      = shapeCast S1x256 (W2 m ρ c (Proc.devRef .tc main_call0_cst_3) : FVec Ideal S256 .f32) shapeCasts_S256_S1x256 := by
    show after hostOps1 (W2 m ρ c) (Proc.devRef .tc main_call0_v29) = _
    after_results
    rfl
  rw [h2, h1, shapeCast_a_1a_apply]
  have hk : S256.rowMajor (ix1 k) = k := Fin.ext (Shape.rowMajor_val_one _)
  show Ideal.ofBits .f32 (lit3 (S256.rowMajor (ix1 k))) = _
  rw [hk]

/-- The second call's table is what the first call computed. -/
theorem entry_table (k o : Fin 256) : (V3 m ρ c main_call0_v28 : FVec Ideal S256x256 .f32) (ix2 k o)
    = slotRow (m ((c : Thread nD τ).loc main_arg1)) (m ((c : Thread nD τ).loc main_arg2)) (m ((c : Thread nD τ).loc main_arg3))
        (m ((c : Thread nD τ).loc main_arg4)) (m ((c : Thread nD τ).loc main_arg5)) k o := by
  have h : V3 m ρ c main_call0_v28 = table (V1 m ρ) c := by
    show W3 m ρ c (Proc.devRef .tc main_call0_v28) = _
    rw [W3_of m ρ c main_call0_v28 (by decide)]
    exact (W2_arr m ρ c 3).trans (final0 (V1 m ρ) c)
  rw [h]
  unfold table
  rw [host_cmat, host_bias, host_weights]
  refine (tbl_apply _ _ _ k o).trans ?_
  rw [shapeCast_a_1a_apply]
  rfl

/-- The kernel's first result at entity `n` and output `o`. -/
theorem result_fst (n : Fin 16384) (o : Fin 256) : (W5 m ρ c (Proc.devRef .tc main_v0_0) : FVec Ideal S16384x256 .f32) (ix2 n o)
    = entityOut (fun k => (m ((c : Thread nD τ).loc main_arg0) : IVec S16384x40 32) (ix2 n k))
        (fun k s => Ideal.ofBits .f32 (lit2 (S40x256.rowMajor (ix2 k s)))) (fun s => Ideal.ofBits .f32 (lit3 s))
        (fun s => slotRow (m ((c : Thread nD τ).loc main_arg1)) (m ((c : Thread nD τ).loc main_arg2))
          (m ((c : Thread nD τ).loc main_arg3)) (m ((c : Thread nD τ).loc main_arg4)) (m ((c : Thread nD τ).loc main_arg5)) s o)
        ((m ((c : Thread nD τ).loc main_arg0) : IVec S16384x40 32) (ix2 n 0)) := by
  have h : W5 m ρ c (Proc.devRef .tc main_v0_0) = encoded (V3 m ρ) c := by
    rw [W5_of m ρ c main_v0_0 (by decide)]
    exact (W4_arr m ρ c 4).trans (final1 (V3 m ρ) c)
  rw [h]
  unfold encoded
  rw [entry_entities, entry_sel]
  show entityOut _ _ (fun s => (V3 m ρ c main_call0_v29 : FVec Ideal S1x256 .f32) (ix2 0 s))
    (fun s => (V3 m ρ c main_call0_v28 : FVec Ideal S256x256 .f32) (ix2 s o)) _ = _
  rw [funext fun s => entry_val m ρ c s, funext fun s => entry_table m ρ c s o]
  rfl

/-- A one-column matrix as a vector. -/
theorem column_apply {α : Type} (x : S16384x1.Idx → α) (n : Fin 16384) :
    shapeCast S16384 x shapeCasts_S16384x1_S16384 (ix1 n) = x (ix2 n 0) :=
  shapeCast_apply x _ _ _ (by
    rw [Shape.rowMajor_val_two, Shape.rowMajor_val_one]
    show n.val * 1 + 0 = n.val
    omega)

/-- A bit widened to a word is nonzero exactly where the bit is set. -/
theorem word_of_bit : ∀ b : BitVec 1, IntOp.cmpi .ne (b.setWidth 32) 0#32 = b := by decide

/-- The kernel's second result at entity `n`. -/
theorem result_snd (n : Fin 16384) : (W5 m ρ c (Proc.devRef .tc main_v0_1) : IVec S16384 1) (ix1 n)
    = maskBit ((m ((c : Thread nD τ).loc main_arg0) : IVec S16384x40 32) (ix2 n 0)) := by
  have h : W4 m ρ c (Proc.devRef .tc main_call0_v30_1) = masked (V3 m ρ) c := (W4_arr m ρ c 5).trans (final2 (V3 m ρ) c)
  have h2 : (W5 m ρ c (Proc.devRef .tc main_v0_1) : IVec S16384 1)
      = cmpi .ne (shapeCast S16384 (W4 m ρ c (Proc.devRef .tc main_call0_v30_1) : IVec S16384x1 32) shapeCasts_S16384x1_S16384)
          (broadcastInDim S16384 ![] bcast_S_S16384 (constantI S_ 32 0#32)) := by
    show after hostOps2 (W4 m ρ c) (Proc.devRef .tc main_v0_1) = _
    after_results
    rfl
  rw [h2, h]
  show IntOp.cmpi .ne (shapeCast S16384 (masked (V3 m ρ) c : IVec S16384x1 32) shapeCasts_S16384x1_S16384 (ix1 n)) 0#32 = _
  rw [column_apply]
  unfold masked
  rw [entry_entities]
  exact word_of_bit _

end Cert.KernelIdeal.Enc
-- ==== Proof.Enc.Slots.lean ====
/- The layout of the kernel's 256 slots: which entity field and which value each slot stands for, and which
   rows of the weight matrix it selects. Nothing here mentions a program. -/
module

public import Idealize.ShloMosaic.Lib.Pipeline
public import Idealize.ShloMosaic.PureOps.Ideal

@[expose] public section

namespace Cert.Enc

/-- The integer square root of a field value below 7. -/
def isq (v : ℕ) : ℕ := if v < 1 then 0 else if v < 4 then 1 else 2

/-- The rows that a packed volatile field `q` of value `v` selects: one per bit set, the last field cut to its
    lowest bit. -/
def volRows (q v : ℕ) : List ℕ :=
  (([0, 1, 2, 3] : List ℕ).filter fun b => v.testBit b && Nat.blt (4 * q + b) 33).map fun b => 1536 + 4 * q + b

/-- The rows of the weight matrix that value `v` of entity field `c` selects. -/
def rowsOf (c v : ℕ) : List ℕ :=
  if c < 1 then [256 + v] else if c < 2 then [768 + v] else if c < 3 then [896 + v]
  else if c < 7 then [1024 + v]
  else if c < 8 then [1569 + isq v] else if c < 9 then [1580 + isq v]
  else if c < 10 then [1612 + v] else if c < 11 then [1616 + v] else if c < 12 then [1624 + v]
  else if c < 13 then [1640 + v] else if c < 14 then [1642 + v] else if c < 15 then [1650 + v]
  else if c < 16 then [1654 + v] else if c < 17 then [1656 + v]
  else if c < 24 then [1658 + 13 * (c - 17) + v + 6]
  else volRows (c - 24) v

/-- The first slot of entity field `c`. -/
def base (c : ℕ) : ℕ :=
  if c < 7 then 7 * c else if c < 8 then 112 else if c < 9 then 119 else if c < 10 then 126
  else if c < 11 then 130 else if c < 12 then 137 else if c < 13 then 144 else if c < 14 then 146
  else if c < 15 then 153 else if c < 16 then 157 else if c < 17 then 159
  else if c < 24 then 161 + 7 * (c - 17) else 49 + 7 * (c - 24)

/-- How many slots entity field `c` has: its values from this one on select nothing. -/
def width (c : ℕ) : ℕ :=
  if c = 9 then 4 else if c = 12 then 2 else if c = 14 then 4 else if c = 15 then 2 else if c = 16 then 2 else 7

/-- The entity field that slot `k` reads. -/
def colOf (k : ℕ) : ℕ :=
  if k < 49 then k / 7 else if k < 112 then 24 + (k - 49) / 7
  else if k < 119 then 7 else if k < 126 then 8 else if k < 130 then 9 else if k < 137 then 10
  else if k < 144 then 11 else if k < 146 then 12 else if k < 153 then 13 else if k < 157 then 14
  else if k < 159 then 15 else if k < 161 then 16 else 17 + (k - 161) / 7

/-- The value for which slot `k` is active. -/
def valOf (k : ℕ) : ℕ := k - base (colOf k)

/-- The rows of the weight matrix that slot `k` selects; the slots from 210 on are padding. -/
def rows (k : ℕ) : List ℕ := if k < 210 then rowsOf (colOf k) (valOf k) else []

end Cert.Enc
-- ==== Proof.Enc.Literals.lean ====
/- The kernel's two smaller constants, read at an element over the extended reals: which field each slot reads, and
   the value each slot stands for. -/
module

public import proofs.«01_k».proof.KernelIdeal
public import proofs.«01_k».proof.Proof.Enc.Slots
public import Idealize.ShloMosaic.Lib.ValueIdx
public import Idealize.ShloMosaic.Lib.IdealHost
public import Idealize.ShloMosaic.PureOps.Ideal.Laws

@[expose] public section

set_option maxRecDepth 100000

noncomputable section

namespace Cert.Enc

open Cert.KernelIdeal Idealize.ShloMosaic Idealize.ShloMosaic.ValueIdx

/-- The word of the selection constant at position `i` of its 40 rows of 256: the float 1 where the slot reads the
    field. -/
def selWord (i : ℕ) : BitVec 32 :=
  if Nat.blt (i % 256) 210 && (colOf (i % 256)).beq (i / 256) then 0x3F800000#32 else 0#32

/-- `f` and `selWord` are the same on the `2 ^ d` positions from `s` on, by evaluation. -/
def sameFrom (f : ℕ → BitVec 32) : ℕ → ℕ → Bool
  | 0, s => decide (f s = selWord s)
  | d + 1, s => sameFrom f d s && sameFrom f d (s + 2 ^ d)

/-- Where the halving check passes, every word of the range is the described one. -/
theorem sameFrom_sound (f : ℕ → BitVec 32) : ∀ d s, sameFrom f d s = true →
    ∀ r, s ≤ r → r < s + 2 ^ d → f r = selWord r
  | 0, s, h, r, h1, h2 => by
      obtain rfl : r = s := by simp at h2; omega
      simpa [sameFrom] using h
  | d + 1, s, h, r, h1, h2 => by
      rw [sameFrom, Bool.and_eq_true] at h
      rw [pow_succ] at h2
      by_cases hr : r < s + 2 ^ d
      · exact sameFrom_sound f d s h.1 r h1 hr
      · exact sameFrom_sound f d _ h.2 r (by omega) (by omega)

/-- The first 8192 words of the selection literal pass the check. -/
theorem sel_low : sameFrom lit2t 13 0 = true := by decide +kernel
/-- So do the remaining 2048. -/
theorem sel_high : sameFrom lit2t 11 8192 = true := by decide +kernel

/-- Every word of the selection literal. -/
theorem sel_word (i : ℕ) (hi : i < 10240) : lit2t i = selWord i := by
  by_cases h : i < 8192
  · exact sameFrom_sound _ 13 0 sel_low i (by omega) (by omega)
  · exact sameFrom_sound _ 11 8192 sel_high i (by omega) (by omega)

/-- The selection constant at field `c` and slot `k`: 1 where the slot reads the field, and 0 elsewhere. -/
theorem sel_apply (c : Fin 40) (k : Fin 256) :
    Ideal.ofBits .f32 (lit2 (S40x256.rowMajor (ix2 c k))) = if k.val < 210 ∧ colOf k.val = c.val then 1 else 0 := by
  have hv : (S40x256.rowMajor (ix2 c k)).val = c.val * 256 + k.val := Shape.rowMajor_val_two _
  show Ideal.ofBits .f32 (lit2t (S40x256.rowMajor (ix2 c k)).val) = _
  have hk := k.isLt
  have hc := c.isLt
  rw [hv, sel_word _ (by omega), selWord, show (c.val * 256 + k.val) / 256 = c.val by omega,
    show (c.val * 256 + k.val) % 256 = k.val by omega]
  by_cases h : k.val < 210 ∧ colOf k.val = c.val
  · rw [if_pos h, if_pos (by simpa using h)]; exact Ideal.ofBits_one_f32
  · rw [if_neg h, if_neg (by simpa using h)]; exact Ideal.ofBits_zero_f32

/-- The float word of a slot's value. -/
def valWord (v : ℕ) : BitVec 32 :=
  if v = 0 then 0#32 else if v = 1 then 0x3F800000#32 else if v = 2 then 0x40000000#32 else if v = 3 then 0x40400000#32
  else if v = 4 then 0x40800000#32 else if v = 5 then 0x40A00000#32 else 0x40C00000#32

/-- Every word of the value literal. -/
theorem val_word : ∀ k : Fin 256, lit3 k = if k.val < 210 then valWord (valOf k.val) else 0xBF800000#32 := by
  decide +kernel

/-- Every used slot stands for a value below seven. -/
theorem valOf_lt : ∀ k < 210, valOf k < 7 := by decide +kernel

/-- A used slot's word is its value. -/
theorem valWord_value (v : ℕ) (hv : v < 7) : Ideal.ofBits .f32 (valWord v) = (((v : ℕ) : ℝ) : EReal) := by
  interval_cases v <;> simp [valWord, Ideal.ofBits, Ideal.ieee, -EReal.coe_mul] <;> norm_num

/-- An unused slot's word is minus one. -/
theorem padWord_value : Ideal.ofBits .f32 0xBF800000#32 = ((-1 : ℝ) : EReal) := by
  simp [Ideal.ofBits, Ideal.ieee, -EReal.coe_mul]; norm_num

/-- The value constant at slot `k`: the slot's value, and −1 on the padding. -/
theorem val_apply (k : Fin 256) :
    Ideal.ofBits .f32 (lit3 k) = if k.val < 210 then (((valOf k.val : ℕ) : ℝ) : EReal) else ((-1 : ℝ) : EReal) := by
  rw [val_word]
  by_cases h : k.val < 210
  · rw [if_pos h, if_pos h, valWord_value _ (valOf_lt _ h)]
  · rw [if_neg h, if_neg h, padWord_value]

end Cert.Enc
-- ==== Proof.Enc.Table.lean ====
/- The kernel's static slot matrix, read at an element over the extended reals. -/
module

public import proofs.«01_k».proof.Proof.Enc.Host
public import proofs.«01_k».proof.Proof.Enc.Literals

@[expose] public section

set_option maxRecDepth 100000

noncomputable section

namespace Cert.KernelIdeal.Enc

open Cert.Enc Cert.KernelIdeal Idealize.ShloMosaic Idealize.ShloMosaic.ValueIdx

/-- The two lists of index words, paired, are the slots in order, each with the rows that it selects. -/
theorem marks_list : (List.finRange 222).map (fun u => ((lit0 u).toInt, (lit1 u).toInt))
    = (List.range 256).flatMap fun k => (rows k).map fun r => (Int.ofNat k, Int.ofNat r) := by decide +kernel

/-- Slot `k` selects row `j` exactly where the lists hold the pair. -/
theorem marked_iff (k j : ℕ) (hk : k < 256) :
    (∃ u : Fin 222, (lit0 u).toInt = k ∧ (lit1 u).toInt = j) ↔ j ∈ rows k := by
  have h : ((k : ℤ), (j : ℤ)) ∈ (List.finRange 222).map (fun u => ((lit0 u).toInt, (lit1 u).toInt))
      ↔ ∃ u : Fin 222, (lit0 u).toInt = k ∧ (lit1 u).toInt = j := by
    simp only [List.mem_map, List.mem_finRange, true_and, Prod.mk.injEq]
  rw [← h, marks_list]
  simp only [List.mem_flatMap, List.mem_range, List.mem_map, Prod.mk.injEq]
  constructor
  · rintro ⟨k', _, r, hr, h1, h2⟩
    obtain rfl := Int.ofNat.inj h1
    obtain rfl := Int.ofNat.inj h2
    exact hr
  · exact fun hr => ⟨k, hk, j, hr, rfl, rfl⟩

/-- The slot matrix at slot `k` and row `j`: 1 where the slot selects the row, and 0 elsewhere. -/
theorem slots_apply (k : Fin 256) (j : Fin 1749) : slots (ix2 k j) = if j.val ∈ rows k.val then 1 else 0 := by
  classical
  unfold slots
  rw [scatter_points (α := EReal) scatter_S256x1749_S222x2_S222_n_01_01_1 rfl rfl rfl marks _
    (broadcastInDim S222 ![] Gen.bcast_S_S222 (constant S_ .f32 0x3F800000#32) : FVec Ideal S222 .f32) 1
    (fun _ => Ideal.ofBits_one_f32) k j]
  simp only [mark_slot, mark_row]
  by_cases h : j.val ∈ rows k.val
  · rw [if_pos h, if_pos ((marked_iff k.val j.val k.isLt).mpr h)]
  · rw [if_neg h, if_neg fun h' => h ((marked_iff k.val j.val k.isLt).mp h')]
    exact Ideal.ofBits_zero_f32

end Cert.KernelIdeal.Enc
-- ==== Proof.Enc.Sum.lean ====
/- The equation of the two programs, free of any program: the sum over the kernel's active slots of a table
   row is the entity's code times the weight matrix. -/
module

public import proofs.«01_k».proof.Proof.Enc.Slots
public import Mathlib.Data.EReal.Operations
public import Mathlib.Algebra.BigOperators.Fin
public import Mathlib.Algebra.BigOperators.Ring.Finset

@[expose] public section

set_option maxRecDepth 16384

noncomputable section

namespace Cert.Enc

open Finset

/-- Slot `k` is active on an entity with the fields `x`. -/
def active (x : ℕ → ℕ) (k : ℕ) : Prop := k < 210 ∧ x (colOf k) = valOf k

instance (x : ℕ → ℕ) (k : ℕ) : Decidable (active x k) := by unfold active; infer_instance

/-- Every used slot looks at one of the first 33 columns. -/
theorem colOf_lt : ∀ k < 210, colOf k < 33 := by decide +kernel
/-- A slot is its column's first slot plus its value. -/
theorem base_add_valOf : ∀ k < 210, base (colOf k) + valOf k = k ∧ valOf k < width (colOf k) := by decide +kernel
/-- The slot of a column and a value looks at that column for that value. -/
theorem slot_col : ∀ c < 33, ∀ v < 7, v < width c →
    base c + v < 210 ∧ colOf (base c + v) = c ∧ valOf (base c + v) = v := by decide +kernel
/-- No column has more than seven slots. -/
theorem width_le : ∀ c < 33, width c ≤ 7 := by decide +kernel

/-- A sum over the active slots is a sum over the entity fields, each taking the slot of its value. -/
theorem sum_active (x : ℕ → ℕ) (T : ℕ → EReal) :
    (∑ k ∈ range 256, if active x k then T k else 0)
      = ∑ c ∈ range 33, if x c < width c then T (base c + x c) else 0 := by
  rw [← sum_filter, ← sum_filter]
  refine sum_bij' (fun k _ => colOf k) (fun c _ => base c + x c) ?_ ?_ ?_ ?_ ?_
  · intro k hk
    obtain ⟨_, h1, h2⟩ := mem_filter.mp hk
    exact mem_filter.mpr ⟨mem_range.mpr (colOf_lt k h1), h2 ▸ (base_add_valOf k h1).2⟩
  · intro c hc
    obtain ⟨h0, h1⟩ := mem_filter.mp hc
    have h0 := mem_range.mp h0
    obtain ⟨a, b, d⟩ := slot_col c h0 (x c) (lt_of_lt_of_le h1 (width_le c h0)) h1
    exact mem_filter.mpr ⟨mem_range.mpr (by omega), a, by rw [b, d]⟩
  · intro k hk
    obtain ⟨_, h1, h2⟩ := mem_filter.mp hk
    show base (colOf k) + x (colOf k) = k
    rw [h2]; exact (base_add_valOf k h1).1
  · intro c hc
    obtain ⟨h0, h1⟩ := mem_filter.mp hc
    have h0 := mem_range.mp h0
    exact (slot_col c h0 (x c) (lt_of_lt_of_le h1 (width_le c h0)) h1).2.1
  · intro k hk
    obtain ⟨_, h1, h2⟩ := mem_filter.mp hk
    show T k = T (base (colOf k) + x (colOf k))
    rw [h2, (base_add_valOf k h1).1]

/-- The kernel's slot table: the three pretrained tables' leading rows in their blocks, and otherwise 1 where the
    slot selects the row and 0 elsewhere. -/
def cmat (A0 A1 A2 : ℕ → ℕ → EReal) (k j : ℕ) : EReal :=
  if k < 7 ∧ j < 128 then A0 k j
  else if (7 ≤ k ∧ k < 14) ∧ 128 ≤ j ∧ j < 192 then A1 (k - 7) (j - 128)
  else if (14 ≤ k ∧ k < 21) ∧ 192 ≤ j ∧ j < 256 then A2 (k - 14) (j - 192)
  else if j ∈ rows k then 1 else 0

/-- How often the fields of an entity select row `j`. -/
def hits (x : ℕ → ℕ) (j : ℕ) : EReal :=
  ∑ c ∈ range 33, if x c < width c ∧ j ∈ rowsOf c (x c) then 1 else 0

/-- Entry `j` of an entity's code. -/
def code (A0 A1 A2 : ℕ → ℕ → EReal) (x : ℕ → ℕ) (j : ℕ) : EReal :=
  if j < 128 then A0 (x 0) j else if j < 192 then A1 (x 1) (j - 128)
  else if j < 256 then A2 (x 2) (j - 192) else hits x j

/-- The first row of the weight matrix that field `c` may select. -/
def lo (c : ℕ) : ℕ :=
  if c < 1 then 256 else if c < 2 then 768 else if c < 3 then 896 else if c < 7 then 1024
  else if c < 8 then 1569 else if c < 9 then 1580 else if c < 10 then 1612 else if c < 11 then 1616
  else if c < 12 then 1624 else if c < 13 then 1640 else if c < 14 then 1642 else if c < 15 then 1650
  else if c < 16 then 1654 else if c < 17 then 1656 else if c < 24 then 1658 + 13 * (c - 17)
  else 1536 + 4 * (c - 24)

/-- One past the last row of the weight matrix that field `c` may select. -/
def hi (c : ℕ) : ℕ :=
  if c < 1 then 768 else if c < 2 then 896 else if c < 3 then 1024 else if c < 7 then 1536
  else if c < 8 then 1580 else if c < 9 then 1612 else if c < 10 then 1616 else if c < 11 then 1624
  else if c < 12 then 1640 else if c < 13 then 1642 else if c < 14 then 1650 else if c < 15 then 1654
  else if c < 16 then 1656 else if c < 17 then 1658 else if c < 24 then 1671 + 13 * (c - 17)
  else if c < 32 then 1540 + 4 * (c - 24) else 1569

/-- The rows that a field selects lie in the field's section. -/
theorem rowsOf_mem : ∀ c < 33, ∀ v < 7, v < width c → ∀ r ∈ rowsOf c v, lo c ≤ r ∧ r < hi c := by decide +kernel

/-- Two fields whose sections don't meet, or one field, or two move fields. -/
def apart (c d : ℕ) : Prop := c = d ∨ (3 ≤ c ∧ c < 7 ∧ 3 ≤ d ∧ d < 7) ∨ hi c ≤ lo d ∨ hi d ≤ lo c

instance (c d : ℕ) : Decidable (apart c d) := by unfold apart; infer_instance

/-- Sections of columns either coincide or do not meet. -/
theorem all_apart : ∀ c < 33, ∀ d < 33, apart c d := by decide +kernel

/-- The same for two different columns. -/
theorem sections (c : ℕ) (hc : c < 33) (d : ℕ) (hd : d < 33) (h : c ≠ d) :
    (3 ≤ c ∧ c < 7 ∧ 3 ≤ d ∧ d < 7) ∨ hi c ≤ lo d ∨ hi d ≤ lo c := (all_apart c hc d hd).resolve_left h

/-- Every section starts past the embedding rows. -/
theorem lo_ge : ∀ c < 33, 256 ≤ lo c := by decide +kernel

/-- A row of a field's section is selected by no other field, the four move fields apart. -/
theorem hits_single (x : ℕ → ℕ) (hx : ∀ c, x c < 7) (c j : ℕ) (hc : c < 33) (hm : c < 3 ∨ 7 ≤ c)
    (h1 : lo c ≤ j) (h2 : j < hi c) : hits x j = if x c < width c ∧ j ∈ rowsOf c (x c) then 1 else 0 := by
  unfold hits
  refine sum_eq_single_of_mem c (mem_range.mpr hc) fun d hd hdc => if_neg ?_
  rintro ⟨hw, hr⟩
  have hd := mem_range.mp hd
  have := rowsOf_mem d hd (x d) (hx d) hw j hr
  rcases sections c hc d hd (Ne.symm hdc) with h | h | h <;> omega

/-- In the move section the four move fields select. -/
theorem hits_moves (x : ℕ → ℕ) (hx : ∀ c, x c < 7) (j : ℕ) (h1 : 1024 ≤ j) (h2 : j < 1536) :
    hits x j = ∑ s : Fin 4, if j = 1024 + x (3 + s.val) then (1 : EReal) else 0 := by
  unfold hits
  rw [Fin.sum_univ_eq_sum_range (fun s => if j = 1024 + x (3 + s) then (1 : EReal) else 0) 4]
  have e : ∀ s ∈ range 4, (if j = 1024 + x (3 + s) then (1 : EReal) else 0)
      = if x (3 + s) < width (3 + s) ∧ j ∈ rowsOf (3 + s) (x (3 + s)) then 1 else 0 := by
    intro s hs
    have hs := mem_range.mp hs
    have hw : width (3 + s) = 7 := (by decide : ∀ s < 4, width (3 + s) = 7) s hs
    have hr : rowsOf (3 + s) (x (3 + s)) = [1024 + x (3 + s)] := by
      unfold rowsOf
      rw [if_neg (by omega), if_neg (by omega), if_neg (by omega), if_pos (by omega)]
    rw [hw, hr]
    simp [hx (3 + s)]
  rw [sum_congr rfl e]
  have : ∀ c ∈ range 33, c ∉ Ico 3 7 → (if x c < width c ∧ j ∈ rowsOf c (x c) then (1 : EReal) else 0) = 0 := by
    intro d hd hd'
    refine if_neg ?_
    rintro ⟨hw, hr⟩
    have hd := mem_range.mp hd
    have a := rowsOf_mem d hd (x d) (hx d) hw j hr
    have hd'' : d < 3 ∨ 7 ≤ d := by rw [mem_Ico] at hd'; omega
    have l3 : lo 3 = 1024 := rfl
    have u3 : hi 3 = 1536 := rfl
    rcases sections 3 (by omega) d hd (by omega) with h | h | h <;> omega
  rw [← sum_subset (s₁ := Ico 3 7) (fun d hd => by rw [mem_Ico] at hd; exact mem_range.mpr (by omega)) this,
    sum_Ico_eq_sum_range]

/-- Summed over the fields, the slot table's rows are the entity's code. -/
theorem sum_cmat (A0 A1 A2 : ℕ → ℕ → EReal) (x : ℕ → ℕ) (hx : ∀ c, x c < 7) (j : ℕ) (w : EReal) :
    (∑ c ∈ range 33, if x c < width c then cmat A0 A1 A2 (base c + x c) j * w else 0)
      = code A0 A1 A2 x j * w := by
  have rowsEq : ∀ c ∈ range 33, x c < width c → rows (base c + x c) = rowsOf c (x c) := by
    intro c hc hw
    obtain ⟨a, b, d⟩ := slot_col c (mem_range.mp hc) (x c) (hx c) hw
    unfold rows
    rw [if_pos a, b, d]
  have colEq : ∀ c ∈ range 33, x c < width c → ∀ k, base c + x c = k → k < 210 ∧ c = colOf k := by
    intro c hc hw k hk
    obtain ⟨a, b, d⟩ := slot_col c (mem_range.mp hc) (x c) (hx c) hw
    exact ⟨hk ▸ a, by rw [← hk, b]⟩
  have inC : ∀ c ∈ range 33, x c < width c → ∀ q < 3, (7 * q ≤ base c + x c ∧ base c + x c < 7 * q + 7) → c = q := by
    intro c hc hw q hq hk
    obtain ⟨h1, h2⟩ := colEq c hc hw _ rfl
    rw [h2]
    unfold colOf
    rw [if_pos (by omega)]
    omega
  have zero : ∀ c ∈ range 33, x c < width c → j < 256 → j ∉ rowsOf c (x c) := by
    intro c hc hw hj hm
    have := rowsOf_mem c (mem_range.mp hc) (x c) (hx c) hw j hm
    have := lo_ge c (mem_range.mp hc)
    omega
  have b0 : base 0 = 0 := rfl
  have b1 : base 1 = 7 := rfl
  have b2 : base 2 = 14 := rfl
  have h0 := hx 0
  have h1 := hx 1
  have h2 := hx 2
  unfold code
  split_ifs with j0 j1 j2
  · rw [sum_eq_single_of_mem 0 (by simp)]
    · rw [if_pos (by exact h0)]
      unfold cmat
      rw [if_pos ⟨by omega, j0⟩, b0, Nat.zero_add]
    · intro c hc hne
      split_ifs with hw
      · unfold cmat
        rw [if_neg (fun h => hne (inC c hc hw 0 (by omega) (by omega))), if_neg (by omega), if_neg (by omega),
          rowsEq c hc hw, if_neg (zero c hc hw (by omega)), zero_mul]
      · rfl
  · rw [sum_eq_single_of_mem 1 (by simp)]
    · rw [if_pos (by exact h1)]
      unfold cmat
      rw [if_neg (by omega), if_pos ⟨by omega, by omega⟩, b1, Nat.add_sub_cancel_left]
    · intro c hc hne
      split_ifs with hw
      · unfold cmat
        rw [if_neg (by omega), if_neg (fun h => hne (inC c hc hw 1 (by omega) (by omega))), if_neg (by omega),
          rowsEq c hc hw, if_neg (zero c hc hw (by omega)), zero_mul]
      · rfl
  · rw [sum_eq_single_of_mem 2 (by simp)]
    · rw [if_pos (by exact h2)]
      unfold cmat
      rw [if_neg (by omega), if_neg (by omega), if_pos ⟨by omega, by omega⟩, b2, Nat.add_sub_cancel_left]
    · intro c hc hne
      split_ifs with hw
      · unfold cmat
        rw [if_neg (by omega), if_neg (by omega), if_neg (fun h => hne (inC c hc hw 2 (by omega) (by omega))),
          rowsEq c hc hw, if_neg (zero c hc hw (by omega)), zero_mul]
      · rfl
  · have step : ∀ c ∈ range 33, (if x c < width c then cmat A0 A1 A2 (base c + x c) j * w else 0)
        = (if x c < width c ∧ j ∈ rowsOf c (x c) then 1 else 0) * w := by
      intro c hc
      by_cases hw : x c < width c
      · rw [if_pos hw]
        unfold cmat
        rw [if_neg (by omega), if_neg (by omega), if_neg (by omega), rowsEq c hc hw]
        simp [hw]
      · simp [hw]
    rw [sum_congr rfl step]
    unfold hits
    have nn : ∀ s : Finset ℕ, ∀ f : ℕ → EReal, (∀ c, 0 ≤ f c) → (∑ c ∈ s, f c * w) = (∑ c ∈ s, f c) * w := by
      intro s f hf
      classical
      induction s using Finset.induction_on with
      | empty => simp
      | insert a s ha ih =>
        rw [sum_insert ha, sum_insert ha, ih,
          EReal.right_distrib_of_nonneg (hf a) (sum_nonneg fun c _ => hf c)]
    refine nn _ _ fun c => ?_
    split_ifs <;> simp

/-- The sum over the active slots of the table row, bias included in the first field's slots, is the code times
    the weights plus the bias. -/
theorem encode_eq (A0 A1 A2 : ℕ → ℕ → EReal) (x : ℕ → ℕ) (hx : ∀ c, x c < 7) (w : ℕ → EReal) (b : EReal) :
    (∑ k ∈ range 256, (if active x k then (1 : EReal) else 0)
        * ((∑ j ∈ range 1749, cmat A0 A1 A2 k j * w j) + (if k < 7 then (1 : EReal) else 0) * b))
      = (∑ j ∈ range 1749, code A0 A1 A2 x j * w j) + b := by
  have e : ∀ k ∈ range 256, (if active x k then (1 : EReal) else 0)
        * ((∑ j ∈ range 1749, cmat A0 A1 A2 k j * w j) + (if k < 7 then (1 : EReal) else 0) * b)
      = if active x k then (∑ j ∈ range 1749, cmat A0 A1 A2 k j * w j) + (if k < 7 then (1 : EReal) else 0) * b else 0 := by
    intro k _
    split_ifs <;> simp
  rw [sum_congr rfl e, sum_active]
  have e2 : ∀ c ∈ range 33, (if x c < width c then (∑ j ∈ range 1749, cmat A0 A1 A2 (base c + x c) j * w j)
        + (if base c + x c < 7 then (1 : EReal) else 0) * b else 0)
      = (∑ j ∈ range 1749, if x c < width c then cmat A0 A1 A2 (base c + x c) j * w j else 0)
        + (if c = 0 then b else 0) := by
    intro c hc
    by_cases hw : x c < width c
    · simp only [if_pos hw]
      congr 1
      obtain ⟨a, h, d⟩ := slot_col c (mem_range.mp hc) (x c) (hx c) hw
      by_cases hc0 : c = 0
      · subst hc0
        rw [if_pos (by have := hx 0; have : base 0 = 0 := rfl; omega), if_pos rfl, one_mul]
      · rw [if_neg, if_neg hc0, zero_mul]
        intro hlt
        apply hc0
        rw [← h]
        unfold colOf
        rw [if_pos (by omega)]
        omega
    · have hc0 : c ≠ 0 := by
        rintro rfl
        exact hw (hx 0)
      simp [hw, hc0]
  rw [sum_congr rfl e2, sum_add_distrib, sum_comm]
  congr 1
  · exact sum_congr rfl fun j _ => sum_cmat A0 A1 A2 x hx j (w j)
  · simp

end Cert.Enc
-- ==== Proof.Enc.Fields.lean ====
/- The arrays of the problem read at plain numbers, and which slots the kernel's comparison picks out. -/
module

public import proofs.«01_k».proof.Proof.Enc.Sum
public import Idealize.ShloMosaic.Lib.ValueIdx
public import Idealize.ShloMosaic.PureOps.Ideal.Laws

@[expose] public section

set_option maxRecDepth 16384

noncomputable section

namespace Cert.Enc

open Idealize.ShloMosaic Idealize.ShloMosaic.ValueIdx

/-- A matrix read at two numbers, 0 outside. -/
def at2 {R C : ℕ} (A : (⟨2, ![R, C]⟩ : Shape).Idx → EReal) (r c : ℕ) : EReal :=
  if h : r < R ∧ c < C then A (ix2 ⟨r, h.1⟩ ⟨c, h.2⟩) else 0

/-- A number-indexed array inside its bounds is the array. -/
theorem at2_eq {R C : ℕ} (A : (⟨2, ![R, C]⟩ : Shape).Idx → EReal) (r c : ℕ) (hr : r < R) (hc : c < C) :
    at2 A r c = A (ix2 ⟨r, hr⟩ ⟨c, hc⟩) := dif_pos ⟨hr, hc⟩

/-- The same at indices that carry their bounds. -/
theorem at2_fin {R C : ℕ} (A : (⟨2, ![R, C]⟩ : Shape).Idx → EReal) (r : Fin R) (c : Fin C) : at2 A r.val c.val = A (ix2 r c) :=
  at2_eq A r.val c.val r.isLt c.isLt

/-- Field `c` of an entity's row of words, as a number. -/
def fld (e : Fin 40 → BitVec 32) (c : ℕ) : ℕ := if h : c < 40 then (e ⟨c, h⟩).toNat else 0

/-- A field of an entity is its word, as a number. -/
theorem fld_fin (e : Fin 40 → BitVec 32) (c : Fin 40) : fld e c.val = (e c).toNat := dif_pos c.isLt

/-- Every field of an entity whose words lie below seven lies below seven. -/
theorem fld_lt (e : Fin 40 → BitVec 32) (he : ∀ c, (e c).toNat < 7) (c : ℕ) : fld e c < 7 := by
  unfold fld
  split
  · exact he _
  · omega

/-- A word below seven is the same number read signed or unsigned. -/
theorem toInt_small (b : BitVec 32) (h : b.toNat < 7) : b.toInt = (b.toNat : ℤ) := by
  rw [BitVec.toInt_eq_toNat_cond, if_pos (by omega)]

/-- The kernel's comparison of a slot's picked-out field with its value holds exactly on the active slots. -/
theorem picked_iff (e : Fin 40 → BitVec 32) (he : ∀ c, (e c).toNat < 7) (k : Fin 256) :
    (∑ c : Fin 40, (((e c).toInt : ℝ) : EReal) * (if k.val < 210 ∧ colOf k.val = c.val then 1 else 0))
        = (if k.val < 210 then (((valOf k.val : ℕ) : ℝ) : EReal) else ((-1 : ℝ) : EReal)) ↔ active (fld e) k.val := by
  unfold active
  by_cases hk : k.val < 210
  · have hc : colOf k.val < 40 := lt_of_lt_of_le (colOf_lt _ hk) (by omega)
    rw [if_pos hk, Finset.sum_eq_single (⟨colOf k.val, hc⟩ : Fin 40)]
    · rw [if_pos ⟨hk, rfl⟩, mul_one, toInt_small _ (he _), EReal.coe_eq_coe_iff]
      have hf : fld e (colOf k.val) = (e ⟨colOf k.val, hc⟩).toNat := dif_pos hc
      rw [hf, Int.cast_natCast, Nat.cast_inj]
      exact ⟨fun h => ⟨hk, h⟩, fun h => h.2⟩
    · intro c _ hne
      rw [if_neg, mul_zero]
      rintro ⟨_, h⟩
      exact hne (Fin.ext h.symm)
    · intro h; exact absurd (Finset.mem_univ _) h
  · rw [if_neg hk, Finset.sum_eq_zero fun c _ => by rw [if_neg (fun h => hk h.1), mul_zero]]
    constructor
    · intro h
      have : (0 : ℝ) = -1 := EReal.coe_eq_coe_iff.mp h
      norm_num at this
    · intro h; exact absurd h.1 hk

end Cert.Enc
-- ==== Proof.Enc.KernelValue.lean ====
/- The kernel's first result as an entity's code times the weights, plus the bias, times the mask. -/
module

public import proofs.«01_k».proof.Proof.Enc.Results
public import proofs.«01_k».proof.Proof.Enc.Table
public import proofs.«01_k».proof.Proof.Enc.Fields

@[expose] public section

set_option maxRecDepth 16384

noncomputable section

namespace Cert.KernelIdeal.Enc

open Cert.Enc Cert.KernelIdeal Cert.KernelIdeal.Gen Idealize.ShloMosaic Idealize.ShloMosaic.TcCoe Idealize.ShloMosaic.ValueIdx

/-- The first seven rows of a table, cut out. -/
theorem top_apply {R C : ℕ} (A : FVec Ideal (⟨2, ![R, C]⟩ : Shape) .f32) (h : (⟨2, ![R, C]⟩ : Shape).Slices ![0, 0] (⟨2, ![7, C]⟩ : Shape))
    (hR : 7 ≤ R) (r : Fin 7) (c : Fin C) :
    extractStridedSlice (⟨2, ![7, C]⟩ : Shape) ![0, 0] A h (ix2 r c) = at2 A r.val c.val := by
  rw [at2_eq A r.val c.val (by omega) c.isLt]
  refine extractStridedSlice_apply _ _ _ _ _ fun a => ?_
  match a with
  | ⟨0, _⟩ => exact (Nat.zero_add _).symm
  | ⟨1, _⟩ => exact (Nat.zero_add _).symm

/-- The table the first call multiplies with the weights, read at an element. -/
theorem cmatOf_apply (A1 : FVec Ideal S512x128 .f32) (A2 A3 : FVec Ideal S128x64 .f32) (k : Fin 256) (j : Fin 1749) :
    cmatOf A1 A2 A3 (ix2 k j) = cmat (at2 A1) (at2 A2) (at2 A3) k.val j.val := by
  unfold cmatOf
  rw [scatter_rect _ rfl rfl rfl rfl _ 14 192 (by rw [pair_fst]; rfl) (by rw [pair_snd]; rfl),
    scatter_rect _ rfl rfl rfl rfl _ 7 128 (by rw [pair_fst]; rfl) (by rw [pair_snd]; rfl),
    scatter_rect _ rfl rfl rfl rfl _ 0 0 (by rw [pair_fst]; rfl) (by rw [pair_snd]; rfl)]
  unfold cmat
  split
  · rename_i h
    rw [if_neg (by omega), if_neg (by omega)]
    exact top_apply A3 _ (by omega) _ _
  split
  · rename_i h
    rw [if_neg (by omega)]
    exact top_apply A2 _ (by omega) _ _
  split
  · rename_i h
    rw [if_pos (by omega)]
    exact top_apply A1 _ (by omega) _ _
  · rw [if_neg (by omega)]
    exact slots_apply k j

/-- What the kernel computes of one entity `e` at output `o`. -/
theorem entity_code (A1 : FVec Ideal S512x128 .f32) (A2 A3 : FVec Ideal S128x64 .f32) (A4 : FVec Ideal S1749x256 .f32)
    (A5 : FVec Ideal S256 .f32) (e : Fin 40 → BitVec 32) (he : ∀ c, (e c).toNat < 7) (s : BitVec 32) (o : Fin 256) :
    entityOut e (fun k s => Ideal.ofBits .f32 (lit2 (S40x256.rowMajor (ix2 k s)))) (fun s => Ideal.ofBits .f32 (lit3 s))
        (fun s => slotRow A1 A2 A3 A4 A5 s o) s
      = ((∑ j : Fin 1749, code (at2 A1) (at2 A2) (at2 A3) (fld e) j.val * A4 (ix2 j o)) + A5 (ix1 o)) * bit (maskBit s) := by
  unfold entityOut
  refine congrArg (· * _) ?_
  have hs : ∀ k : Fin 256, (if (∑ c : Fin 40, (((e c).toInt : ℝ) : EReal) * Ideal.ofBits .f32 (lit2 (S40x256.rowMajor (ix2 c k))))
        = Ideal.ofBits .f32 (lit3 k) then (1 : EReal) else 0) * slotRow A1 A2 A3 A4 A5 k o
      = (if active (fld e) k.val then 1 else 0)
        * ((∑ j ∈ Finset.range 1749, cmat (at2 A1) (at2 A2) (at2 A3) k.val j * at2 A4 j o.val)
          + (if k.val < 7 then 1 else 0) * A5 (ix1 o)) := fun k => by
    rw [val_apply, Finset.sum_congr rfl fun c _ => by rw [sel_apply]]
    refine congrArg₂ (· * ·) (if_congr (picked_iff e he k) rfl rfl) ?_
    unfold slotRow
    rw [Finset.sum_range]
    refine congrArg (· + _) (Finset.sum_congr rfl fun j _ => ?_)
    rw [cmatOf_apply, at2_fin]
  rw [Finset.sum_congr rfl fun k _ => hs k]
  have hr := Finset.sum_range (n := 256) fun k : ℕ => (if active (fld e) k then (1 : EReal) else 0)
        * ((∑ j ∈ Finset.range 1749, cmat (at2 A1) (at2 A2) (at2 A3) k j * at2 A4 j o.val)
          + (if k < 7 then 1 else 0) * A5 (ix1 o))
  rw [← hr, encode_eq _ _ _ _ (fld_lt e he), Finset.sum_range]
  refine congrArg (· + _) (Finset.sum_congr rfl fun j _ => ?_)
  rw [at2_fin]

end Cert.KernelIdeal.Enc
-- ==== Proof.Enc.RefOps.lean ====
/- The reference's operations read at an element: a column of the entities, an embedding row, a one-hot. -/
module

public import Idealize.ShloMosaic.Lib.Pipeline.Value
public import Idealize.ShloMosaic.Lib.ValueIdx
public import Idealize.ShloMosaic.PureOps.Ideal.Laws

@[expose] public section

set_option maxRecDepth 16384

noncomputable section

namespace Cert.Enc

open Idealize.ShloMosaic Idealize.ShloMosaic.ValueIdx

/-- Column `c` of the entities. -/
theorem column_read {B A : ℕ} {α : Type} (x : (⟨2, ![B, A]⟩ : Shape).Idx → α) (c : ℕ) (hc : c < A)
    (h : (⟨2, ![B, A]⟩ : Shape).Slices ![0, c] (⟨2, ![B, 1]⟩ : Shape)) (hs : (⟨2, ![B, 1]⟩ : Shape).ShapeCasts ⟨1, ![B]⟩) (n : Fin B) :
    shapeCast (⟨1, ![B]⟩ : Shape) (extractStridedSlice (⟨2, ![B, 1]⟩ : Shape) ![0, c] x h) hs (ix1 n) = x (ix2 n ⟨c, hc⟩) := by
  rw [shapeCast_apply _ hs (ix1 n) (ix2 n (0 : Fin 1)) (by
    rw [Shape.rowMajor_val_two, Shape.rowMajor_val_one]
    show n.val * 1 + 0 = n.val
    omega)]
  refine extractStridedSlice_apply _ _ _ _ _ fun a => ?_
  match a with
  | ⟨0, _⟩ => exact (Nat.zero_add _).symm
  | ⟨1, _⟩ => rfl

/-- A comparison of a word with a number, as the float it is converted to. -/
theorem eq_float (a : BitVec 32) (j : ℕ) (hj : j < 4294967296) :
    FloatOps.uitofp (F := Ideal) .f32 (IntOp.cmpi .eq a (BitVec.ofNat 32 j)) = if a.toNat = j then (1 : EReal) else 0 := by
  show (((BitVec.ofBool (decide (a = BitVec.ofNat 32 j))).toNat : ℝ) : EReal) = _
  have he : a = BitVec.ofNat 32 j ↔ a.toNat = j := by
    rw [← BitVec.toNat_inj, BitVec.toNat_ofNat, Nat.mod_eq_of_lt hj]
  by_cases h : a.toNat = j
  · rw [if_pos h, decide_eq_true (he.mpr h)]; simp
  · rw [if_neg h, decide_eq_false (fun e => h (he.mp e))]; simp

/-- A one-hot of a vector. -/
theorem hot_apply {B w : ℕ} (hB : B ≠ 1) (hw : w ≠ 1) (hw' : w < 4294967296) (v : IVec ⟨1, ![B]⟩ 32)
    (h1 : (⟨1, ![B]⟩ : Shape).BroadcastsInDim (⟨2, ![B, 1]⟩ : Shape) ![0])
    (h2 : (⟨2, ![B, 1]⟩ : Shape).BroadcastsInDim (⟨2, ![B, w]⟩ : Shape) ![0, 1])
    (h3 : (⟨2, ![1, w]⟩ : Shape).BroadcastsInDim (⟨2, ![B, w]⟩ : Shape) ![0, 1]) (n : Fin B) (j : Fin w) :
    uitofp (F := Ideal) .f32 (cmpi .eq (broadcastInDim (⟨2, ![B, w]⟩ : Shape) ![0, 1] h2 (broadcastInDim (⟨2, ![B, 1]⟩ : Shape) ![0] h1 v))
      (broadcastInDim (⟨2, ![B, w]⟩ : Shape) ![0, 1] h3 (iotaInDim (⟨2, ![1, w]⟩ : Shape) 32 1))) (ix2 n j)
      = if (v (ix1 n)).toNat = j.val then (1 : EReal) else 0 := by
  have e1 : broadcastInDim (⟨2, ![B, w]⟩ : Shape) ![0, 1] h2 (broadcastInDim (⟨2, ![B, 1]⟩ : Shape) ![0] h1 v) (ix2 n j) = v (ix1 n) := by
    rw [broadcastInDim_apply _ h2 _ (ix2 n j) (ix2 n (0 : Fin 1)) (fun a => match a with
      | ⟨0, _⟩ => (if_neg hB).symm
      | ⟨1, _⟩ => (if_pos rfl).symm)]
    exact broadcastInDim_apply _ h1 _ _ _ fun a => match a with
      | ⟨0, _⟩ => (if_neg hB).symm
  have e2 : broadcastInDim (⟨2, ![B, w]⟩ : Shape) ![0, 1] h3 (iotaInDim (⟨2, ![1, w]⟩ : Shape) 32 1) (ix2 n j) = BitVec.ofNat 32 j.val :=
    broadcastInDim_apply _ h3 _ (ix2 n j) (ix2 (0 : Fin 1) j) fun a => match a with
      | ⟨0, _⟩ => (if_pos rfl).symm
      | ⟨1, _⟩ => (if_neg hw).symm
  show FloatOps.uitofp (F := Ideal) .f32 (IntOp.cmpi .eq _ _) = _
  rw [e1, e2]
  exact eq_float _ _ (by omega)

/-- A row of words spread along a new last axis. -/
theorem spread_apply {B A w : ℕ} (hB : B ≠ 1) (hA : A ≠ 1) {α : Type} (v : (⟨2, ![B, A]⟩ : Shape).Idx → α)
    (h1 : (⟨2, ![B, A]⟩ : Shape).BroadcastsInDim (⟨3, ![B, A, 1]⟩ : Shape) ![0, 1])
    (h2 : (⟨3, ![B, A, 1]⟩ : Shape).BroadcastsInDim (⟨3, ![B, A, w]⟩ : Shape) ![0, 1, 2]) (n : Fin B) (a : Fin A) (j : Fin w) :
    broadcastInDim (⟨3, ![B, A, w]⟩ : Shape) ![0, 1, 2] h2 (broadcastInDim (⟨3, ![B, A, 1]⟩ : Shape) ![0, 1] h1 v) (ix3 n a j)
      = v (ix2 n a) := by
  rw [broadcastInDim_apply _ h2 _ (ix3 n a j) (ix3 n a (0 : Fin 1)) (fun b => match b with
    | ⟨0, _⟩ => (if_neg hB).symm
    | ⟨1, _⟩ => (if_neg hA).symm
    | ⟨2, _⟩ => (if_pos rfl).symm)]
  exact broadcastInDim_apply _ h1 _ _ _ fun b => match b with
    | ⟨0, _⟩ => (if_neg hB).symm
    | ⟨1, _⟩ => (if_neg hA).symm

/-- A one-hot of a matrix. -/
theorem hot3_apply {B A w : ℕ} (hB : B ≠ 1) (hA : A ≠ 1) (hw : w ≠ 1) (hw' : w < 4294967296) (v : IVec ⟨2, ![B, A]⟩ 32)
    (h1 : (⟨2, ![B, A]⟩ : Shape).BroadcastsInDim (⟨3, ![B, A, 1]⟩ : Shape) ![0, 1])
    (h2 : (⟨3, ![B, A, 1]⟩ : Shape).BroadcastsInDim (⟨3, ![B, A, w]⟩ : Shape) ![0, 1, 2])
    (h3 : (⟨3, ![1, 1, w]⟩ : Shape).BroadcastsInDim (⟨3, ![B, A, w]⟩ : Shape) ![0, 1, 2]) (n : Fin B) (a : Fin A) (j : Fin w) :
    uitofp (F := Ideal) .f32 (cmpi .eq
      (broadcastInDim (⟨3, ![B, A, w]⟩ : Shape) ![0, 1, 2] h2 (broadcastInDim (⟨3, ![B, A, 1]⟩ : Shape) ![0, 1] h1 v))
      (broadcastInDim (⟨3, ![B, A, w]⟩ : Shape) ![0, 1, 2] h3 (iotaInDim (⟨3, ![1, 1, w]⟩ : Shape) 32 2))) (ix3 n a j)
      = if (v (ix2 n a)).toNat = j.val then (1 : EReal) else 0 := by
  have e2 : broadcastInDim (⟨3, ![B, A, w]⟩ : Shape) ![0, 1, 2] h3 (iotaInDim (⟨3, ![1, 1, w]⟩ : Shape) 32 2) (ix3 n a j)
      = BitVec.ofNat 32 j.val :=
    broadcastInDim_apply _ h3 _ (ix3 n a j) (ix3 (0 : Fin 1) (0 : Fin 1) j) fun b => match b with
      | ⟨0, _⟩ => (if_pos rfl).symm
      | ⟨1, _⟩ => (if_pos rfl).symm
      | ⟨2, _⟩ => (if_neg hw).symm
  show FloatOps.uitofp (F := Ideal) .f32 (IntOp.cmpi .eq _ _) = _
  rw [spread_apply hB hA, e2]
  exact eq_float _ _ (by omega)

/-- The dimension numbers of reading whole rows of a table at a column of row numbers. -/
def rowDims (N C B : ℕ)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A table's row read at a row number inside the table. -/
theorem gather_row_apply {N C B : ℕ} {α : Type}
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (n : Fin B) (j : Fin C) (r : ℕ) (hr : r < N)
    (h : (idx (ix2 n (0 : Fin 1))).toInt = r) :
    Host.gather (rowDims N C B wf) x idx (ix2 n j) = x (ix2 ⟨r, hr⟩ j) := by
  unfold Host.gather
  congr 1
  funext a
  refine Fin.ext ?_
  show (rowDims N C B wf).start (ix2 n j) idx a + (rowDims N C B wf).batchCoord (ix2 n j) a
      + (rowDims N C B wf).offCoord (ix2 n j) a = _
  rw [GatherDims.batchCoord_eq_zero _ _ _ (fun h => by simp [rowDims] at h), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C B wf).startIndexMap from List.mem_singleton.mpr rfl)]
    have hsi : (rowDims N C B wf).siIdx (ix2 n j) ⟨List.idxOf (0 : Fin 2) (rowDims N C B wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, h]
    show min r (N - 1) = r
    omega
  · have hs : (rowDims N C B wf).start (ix2 n j) idx 1 = 0 := by
      unfold GatherDims.start
      rw [dif_neg (by simp [rowDims])]
    rw [hs, Nat.zero_add]
    have hm : (1 : Fin 2) ∈ (rowDims N C B wf).sKept := (GatherDims.mem_sKept _ _).mpr ⟨by simp [rowDims], by simp [rowDims]⟩
    unfold GatherDims.offCoord
    rw [dif_pos hm]
    rfl

/-- A row number below 7 isn't wrapped. -/
theorem wrap_small (a N : BitVec 32) (h : a.toNat < 7) :
    (Scalar.select (IntOp.cmpi .slt a 0#32) (IntOp.addi a N) a).toInt = (a.toNat : ℤ) := by
  have e : a.toInt = (a.toNat : ℤ) := by rw [BitVec.toInt_eq_toNat_cond, if_pos (by omega)]
  have hc : IntOp.cmpi .slt a 0#32 = 0#1 := by
    show BitVec.ofBool (a.slt 0#32) = 0#1
    have : a.slt 0#32 = false := by
      rw [BitVec.slt, e]; simp
    rw [this]; rfl
  rw [hc]
  exact e

end Cert.Enc
-- ==== Proof.Enc.RefHits.lean ====
/- The sections of an entity's code: each holds the one-hot, or the bits, of its fields. -/
module

public import proofs.«01_k».proof.Proof.Enc.Sum
public import Idealize.ShloMosaic.PureOps.Ideal.Laws

@[expose] public section

set_option maxRecDepth 16384

noncomputable section

namespace Cert.Enc

open Idealize.ShloMosaic

/-- The section of a field that selects one row, `f` of its value: the one-hot of `f`. -/
theorem hits_section (x : ℕ → ℕ) (hx : ∀ c, x c < 7) (c w : ℕ) (f : ℕ → ℕ) (hc : c < 33) (hm : c < 3 ∨ 7 ≤ c)
    (hw : hi c = lo c + w) (hr : ∀ v < 7, rowsOf c v = [lo c + f v]) (hd : ∀ v < 7, f v < w → v < width c)
    (j : ℕ) (hj : j < w) : hits x (lo c + j) = if f (x c) = j then 1 else 0 := by
  rw [hits_single x hx c (lo c + j) hc hm (by omega) (by omega), hr _ (hx c)]
  refine if_congr ?_ rfl rfl
  rw [List.mem_singleton]
  constructor
  · rintro ⟨_, h⟩; omega
  · intro h; exact ⟨hd _ (hx c) (by omega), by omega⟩

/-- The move section: how many of the four move fields hold the move. -/
theorem hits_move (x : ℕ → ℕ) (hx : ∀ c, x c < 7) (j : ℕ) (hj : j < 512) :
    hits x (1024 + j) = ∑ s : Fin 4, if x (3 + s.val) = j then (1 : EReal) else 0 := by
  rw [hits_moves x hx _ (by omega) (by omega)]
  exact Finset.sum_congr rfl fun s _ => if_congr (by omega) rfl rfl

/-- A packed field selects the row of a bit exactly where the bit is set. -/
theorem vol_rows : ∀ q < 9, ∀ v < 7, ∀ b < 4, 4 * q + b < 33 →
    decide (v < width (24 + q) ∧ 1536 + 4 * q + b ∈ rowsOf (24 + q) v) = v.testBit b := by decide +kernel

/-- The rows of a packed field lie in its own section. -/
theorem vol_bounds : ∀ q < 9, ∀ b < 4, 4 * q + b < 33 → lo (24 + q) ≤ 1536 + 4 * q + b ∧ 1536 + 4 * q + b < hi (24 + q) := by
  decide +kernel

/-- The volatile section: the bits of the packed fields. -/
theorem hits_vol (x : ℕ → ℕ) (hx : ∀ c, x c < 7) (q b : ℕ) (hq : q < 9) (hb : b < 4) (h : 4 * q + b < 33) :
    hits x (1536 + 4 * q + b) = if (x (24 + q)).testBit b = true then 1 else 0 := by
  obtain ⟨h1, h2⟩ := vol_bounds q hq b hb h
  rw [hits_single x hx (24 + q) _ (by omega) (Or.inr (by omega)) h1 h2]
  rw [← vol_rows q hq _ (hx _) b hb h]
  exact if_congr (by rw [decide_eq_true_iff]) rfl rfl

/-- A boost selects one row, six past its value. -/
theorem boost_rows : ∀ q < 7, ∀ v < 7, rowsOf (17 + q) v = [lo (17 + q) + (v + 6)] := by decide +kernel
/-- A boost's section has thirteen rows. -/
theorem boost_bounds : ∀ q < 7, lo (17 + q) = 1658 + 13 * q ∧ hi (17 + q) = lo (17 + q) + 13 ∧ width (17 + q) = 7 := by
  decide +kernel

/-- The boost section: the one-hot of each boost plus 6. -/
theorem hits_boost (x : ℕ → ℕ) (hx : ∀ c, x c < 7) (q t : ℕ) (hq : q < 7) (ht : t < 13) :
    hits x (1658 + 13 * q + t) = if x (17 + q) + 6 = t then 1 else 0 := by
  obtain ⟨h1, h2, h3⟩ := boost_bounds q hq
  have := hits_section x hx (17 + q) 13 (fun v => v + 6) (by omega) (Or.inr (by omega)) h2 (boost_rows q hq)
    (fun v hv _ => by omega) t ht
  rwa [h1] at this

/-- The reference's level: the whole part of the square root of a value below 7, below a cap from 2 on. -/
theorem level_word (a K : BitVec 32) (ha : a.toNat < 7) (hK : ∀ n < 3, IntOp.minsi (BitVec.ofNat 32 n) K = BitVec.ofNat 32 n) :
    (IntOp.minsi (Ideal.fptosi 32 (Ideal.liftRound Int.floor (Ideal.sqrt ((a.toInt : ℝ) : EReal)))) K).toNat = isq a.toNat := by
  have e : a.toInt = (a.toNat : ℤ) := by rw [BitVec.toInt_eq_toNat_cond, if_pos (by omega)]
  have hs : ∀ v < 7, isq v * isq v ≤ v ∧ v < (isq v + 1) * (isq v + 1) ∧ isq v < 3 := by decide
  generalize a.toNat = v at *
  obtain ⟨h1, h2, h3⟩ := hs v ha
  have hf : ⌊Real.sqrt (v : ℝ)⌋ = ((isq v : ℕ) : ℤ) := by
    rw [Int.floor_eq_iff]
    constructor
    · apply Real.le_sqrt_of_sq_le
      rw [sq, Int.cast_natCast]
      exact_mod_cast h1
    · rw [Real.sqrt_lt' (by positivity), sq, Int.cast_natCast]
      exact_mod_cast h2
  rw [e, Int.cast_natCast, Ideal.sqrt_coe, if_neg (not_lt.mpr (Nat.cast_nonneg v))]
  show (IntOp.minsi (BitVec.ofInt 32 (max (-(2 ^ (32 - 1) : ℕ)) (min (((2 ^ (32 - 1) : ℕ) : ℤ) - 1)
    (if 0 ≤ ((⌊Real.sqrt (v : ℝ)⌋ : ℤ) : ℝ) then ⌊((⌊Real.sqrt (v : ℝ)⌋ : ℤ) : ℝ)⌋ else ⌈((⌊Real.sqrt (v : ℝ)⌋ : ℤ) : ℝ)⌉)))) K).toNat = _
  rw [hf, if_pos (by positivity), Int.floor_intCast]
  have hw : max (-(2 ^ (32 - 1) : ℕ) : ℤ) (min (((2 ^ (32 - 1) : ℕ) : ℤ) - 1) ((isq v : ℕ) : ℤ)) = ((isq v : ℕ) : ℤ) := by
    push_cast
    omega
  rw [hw, BitVec.ofInt_natCast, hK _ h3, BitVec.toNat_ofNat]
  omega

/-- Testing a bit by masking, for values below seven. -/
theorem bit_test : ∀ v < 7, ∀ b < 4,
    IntOp.cmpi .ne (IntOp.andi (BitVec.ofNat 32 v) (IntOp.shli .host 1#32 (BitVec.ofNat 32 b))) 0#32 = BitVec.ofBool (v.testBit b) := by
  decide +kernel

/-- The reference's test of one bit of a packed field, as a float. -/
theorem bit_float (a : BitVec 32) (ha : a.toNat < 7) (b : ℕ) (hb : b < 4) :
    FloatOps.uitofp (F := Ideal) .f32 (IntOp.cmpi .ne (IntOp.andi a (IntOp.shli .host 1#32 (BitVec.ofNat 32 b))) 0#32)
      = if a.toNat.testBit b = true then (1 : EReal) else 0 := by
  have h := bit_test a.toNat ha b hb
  rw [BitVec.ofNat_toNat, BitVec.setWidth_eq] at h
  rw [h]
  show (((BitVec.ofBool (a.toNat.testBit b)).toNat : ℝ) : EReal) = _
  cases a.toNat.testBit b <;> simp

/-- A boost's index word. -/
theorem boost_word (a : BitVec 32) (ha : a.toNat < 7) : (IntOp.addi a 6#32).toNat = a.toNat + 6 := by
  show (a + 6#32).toNat = _
  rw [BitVec.toNat_add]
  show (a.toNat + 6) % 4294967296 = _
  omega

end Cert.Enc
-- ==== Proof.Enc.RefCode.lean ====
/- The reference's code array: each of its joined sections, read at an entity and a position, is the entity's code. -/
module

public import proofs.«01_k».proof.Proof.Gen.ReferenceIdeal.Read
public import proofs.«01_k».proof.Proof.Enc.RefOps
public import proofs.«01_k».proof.Proof.Enc.RefHits
public import proofs.«01_k».proof.Proof.Enc.Fields

@[expose] public section

set_option maxRecDepth 16384

noncomputable section

namespace Cert.ReferenceIdeal.Enc

open Cert.Enc Cert.ReferenceIdeal Cert.ReferenceIdeal.Gen Cert.ReferenceIdeal.Read
open Idealize.ShloMosaic Idealize.ShloMosaic.TcCoe Idealize.ShloMosaic.ValueIdx

variable (x0 : IVec S16384x40 32) (hx : ∀ (n : Fin 16384) (c : Fin 40), (x0 (ix2 n c)).toNat < 7)

/-- The words of entity `n`. -/
abbrev rowOf (n : Fin 16384) : Fin 40 → BitVec 32 := fun c => x0 (ix2 n c)

include hx in
/-- Every field of an entity lies below seven. -/
theorem fields_lt (n : Fin 16384) (c : ℕ) : fld (rowOf x0 n) c < 7 := fld_lt _ (hx n) c

/-- An entity word as a field. -/
theorem fld_eq (n : Fin 16384) (c : ℕ) (hc : c < 40) : (x0 (ix2 n ⟨c, hc⟩)).toNat = fld (rowOf x0 n) c :=
  (fld_fin (rowOf x0 n) ⟨c, hc⟩).symm

/-! ## The one-hot sections -/

/-- The one-hot of `f` of a vector of words that are `f` of a field, in that field's section. -/
theorem hot_section {w : ℕ} (hw : w ≠ 1) (hw' : w < 4294967296) (c : ℕ) (f : ℕ → ℕ) (v : IVec S16384 32)
    (h1 : S16384.BroadcastsInDim S16384x1 ![0])
    (h2 : S16384x1.BroadcastsInDim (⟨2, ![16384, w]⟩ : Shape) ![0, 1])
    (h3 : (⟨2, ![1, w]⟩ : Shape).BroadcastsInDim (⟨2, ![16384, w]⟩ : Shape) ![0, 1]) (n : Fin 16384)
    (hn : ∀ c, fld (rowOf x0 n) c < 7) (hv : (v (ix1 n)).toNat = f (fld (rowOf x0 n) c))
    (hc : c < 33) (hm : c < 3 ∨ 7 ≤ c) (hh : hi c = lo c + w) (hr : ∀ v < 7, rowsOf c v = [lo c + f v])
    (hd : ∀ v < 7, f v < w → v < width c) (j : Fin w) :
    uitofp (F := Ideal) .f32 (cmpi .eq (broadcastInDim (⟨2, ![16384, w]⟩ : Shape) ![0, 1] h2 (broadcastInDim S16384x1 ![0] h1 v))
      (broadcastInDim (⟨2, ![16384, w]⟩ : Shape) ![0, 1] h3 (iotaInDim (⟨2, ![1, w]⟩ : Shape) 32 1))) (ix2 n j)
      = hits (fld (rowOf x0 n)) (lo c + j.val) := by
  rw [hits_section _ hn c w f hc hm hh hr hd j.val j.isLt, ← hv]
  exact hot_apply (by decide) hw hw' v h1 h2 h3 n j

/-- Column `c` of the entities as a vector of words. -/
theorem column_word (c : ℕ) (hc : c < 40) (h : S16384x40.Slices ![0, c] S16384x1) (n : Fin 16384) :
    (shapeCast S16384 (extractStridedSlice S16384x1 ![0, c] x0 h) shapeCasts_S16384x1_S16384 (ix1 n)).toNat = fld (rowOf x0 n) c := by
  rw [column_read x0 c hc h _ n, fld_eq]

include hx in
/-- The level of column `c`. -/
theorem level_read (c : ℕ) (hc : c < 40) (h : S16384x40.Slices ![0, c] S16384x1) (K : BitVec 32)
    (hK : ∀ n < 3, IntOp.minsi (BitVec.ofNat 32 n) K = BitVec.ofNat 32 n) (n : Fin 16384) :
    (minsi (fptosi 32 (Host.floor (Host.sqrt (sitofp (F := Ideal) .f32
        (shapeCast S16384 (extractStridedSlice S16384x1 ![0, c] x0 h) shapeCasts_S16384x1_S16384)))))
      (broadcastInDim S16384 ![] bcast_S_S16384 (constantI S_ 32 K)) (ix1 n)).toNat = isq (fld (rowOf x0 n) c) := by
  show (IntOp.minsi (Ideal.fptosi 32 (Ideal.liftRound Int.floor (Ideal.sqrt
    (((shapeCast S16384 (extractStridedSlice S16384x1 ![0, c] x0 h) shapeCasts_S16384x1_S16384 (ix1 n)).toInt : ℝ) : EReal)))) K).toNat = _
  rw [column_read x0 c hc h _ n, level_word _ _ (hx _ _) hK, fld_eq]

/-- `hot_section` where the words are the field itself. -/
theorem hot_field {w : ℕ} (hw : w ≠ 1) (hw' : w < 4294967296) (c : ℕ) (h : S16384x40.Slices ![0, c] S16384x1)
    (h1 : S16384.BroadcastsInDim S16384x1 ![0])
    (h2 : S16384x1.BroadcastsInDim (⟨2, ![16384, w]⟩ : Shape) ![0, 1])
    (h3 : (⟨2, ![1, w]⟩ : Shape).BroadcastsInDim (⟨2, ![16384, w]⟩ : Shape) ![0, 1]) (n : Fin 16384)
    (hn : ∀ c, fld (rowOf x0 n) c < 7) (hc : c < 33) (hm : c < 3 ∨ 7 ≤ c) (hh : hi c = lo c + w)
    (hr : ∀ v < 7, rowsOf c v = [lo c + v]) (hd : ∀ v < 7, v < w → v < width c) (j : Fin w) :
    uitofp (F := Ideal) .f32 (cmpi .eq (broadcastInDim (⟨2, ![16384, w]⟩ : Shape) ![0, 1] h2 (broadcastInDim S16384x1 ![0] h1
        (shapeCast S16384 (extractStridedSlice S16384x1 ![0, c] x0 h) shapeCasts_S16384x1_S16384)))
      (broadcastInDim (⟨2, ![16384, w]⟩ : Shape) ![0, 1] h3 (iotaInDim (⟨2, ![1, w]⟩ : Shape) 32 1))) (ix2 n j)
      = hits (fld (rowOf x0 n)) (lo c + j.val) :=
  hot_section x0 hw hw' c (fun v => v) _ h1 h2 h3 n hn (column_word x0 c (by omega) h n) hc hm hh hr hd j

section
variable (n : Fin 16384)

include hx in
/-- The species one-hot. -/
theorem sec_species (j : Fin 512) : val_main_v49 (F := Ideal) x0 (ix2 n j) = hits (fld (rowOf x0 n)) (256 + j.val) :=
  hot_field x0 (by decide) (by decide) 0 slices_S16384x40_S16384x1_0_0 _ _ _ n (fields_lt x0 hx n) (by decide) (by decide)
    (by decide) (by decide) (by decide) j

include hx in
/-- The ability one-hot. -/
theorem sec_ability (j : Fin 128) : val_main_v50 (F := Ideal) x0 (ix2 n j) = hits (fld (rowOf x0 n)) (768 + j.val) :=
  hot_field x0 (by decide) (by decide) 1 slices_S16384x40_S16384x1_0_1 _ _ _ n (fields_lt x0 hx n) (by decide) (by decide)
    (by decide) (by decide) (by decide) j

include hx in
/-- The item one-hot. -/
theorem sec_item (j : Fin 128) : val_main_v51 (F := Ideal) x0 (ix2 n j) = hits (fld (rowOf x0 n)) (896 + j.val) :=
  hot_field x0 (by decide) (by decide) 2 slices_S16384x40_S16384x1_0_2 _ _ _ n (fields_lt x0 hx n) (by decide) (by decide)
    (by decide) (by decide) (by decide) j

include hx in
/-- The level one-hot. -/
theorem sec_level (j : Fin 11) : val_main_v60 (F := Ideal) x0 (ix2 n j) = hits (fld (rowOf x0 n)) (1569 + j.val) :=
  hot_section x0 (by decide) (by decide) 7 isq _ _ _ _ n (fields_lt x0 hx n)
    (level_read x0 hx 7 (by decide) slices_S16384x40_S16384x1_0_7 10#32 (by decide) n) (by decide) (by decide)
    (by decide) (by decide) (by decide) j

include hx in
/-- The hit-point one-hot. -/
theorem sec_hp (j : Fin 32) : val_main_v69 (F := Ideal) x0 (ix2 n j) = hits (fld (rowOf x0 n)) (1580 + j.val) :=
  hot_section x0 (by decide) (by decide) 8 isq _ _ _ _ n (fields_lt x0 hx n)
    (level_read x0 hx 8 (by decide) slices_S16384x40_S16384x1_0_8 31#32 (by decide) n) (by decide) (by decide)
    (by decide) (by decide) (by decide) j

include hx in
/-- The gender one-hot. -/
theorem sec_gender (j : Fin 4) : val_main_v72 (F := Ideal) x0 (ix2 n j) = hits (fld (rowOf x0 n)) (1612 + j.val) :=
  hot_field x0 (by decide) (by decide) 9 slices_S16384x40_S16384x1_0_9 _ _ _ n (fields_lt x0 hx n) (by decide) (by decide)
    (by decide) (by decide) (by decide) j

include hx in
/-- The status one-hot. -/
theorem sec_status (j : Fin 8) : val_main_v75 (F := Ideal) x0 (ix2 n j) = hits (fld (rowOf x0 n)) (1616 + j.val) :=
  hot_field x0 (by decide) (by decide) 10 slices_S16384x40_S16384x1_0_10 _ _ _ n (fields_lt x0 hx n) (by decide) (by decide)
    (by decide) (by decide) (by decide) j

include hx in
/-- The item-effect one-hot. -/
theorem sec_effect (j : Fin 16) : val_main_v78 (F := Ideal) x0 (ix2 n j) = hits (fld (rowOf x0 n)) (1624 + j.val) :=
  hot_field x0 (by decide) (by decide) 11 slices_S16384x40_S16384x1_0_11 _ _ _ n (fields_lt x0 hx n) (by decide) (by decide)
    (by decide) (by decide) (by decide) j

include hx in
/-- The trapped one-hot. -/
theorem sec_trapped (j : Fin 2) : val_main_v81 (F := Ideal) x0 (ix2 n j) = hits (fld (rowOf x0 n)) (1640 + j.val) :=
  hot_field x0 (by decide) (by decide) 12 slices_S16384x40_S16384x1_0_12 _ _ _ n (fields_lt x0 hx n) (by decide) (by decide)
    (by decide) (by decide) (by decide) j

include hx in
/-- The toxic one-hot. -/
theorem sec_toxic (j : Fin 8) : val_main_v84 (F := Ideal) x0 (ix2 n j) = hits (fld (rowOf x0 n)) (1642 + j.val) :=
  hot_field x0 (by decide) (by decide) 13 slices_S16384x40_S16384x1_0_13 _ _ _ n (fields_lt x0 hx n) (by decide) (by decide)
    (by decide) (by decide) (by decide) j

include hx in
/-- The sleep one-hot. -/
theorem sec_sleep (j : Fin 4) : val_main_v87 (F := Ideal) x0 (ix2 n j) = hits (fld (rowOf x0 n)) (1650 + j.val) :=
  hot_field x0 (by decide) (by decide) 14 slices_S16384x40_S16384x1_0_14 _ _ _ n (fields_lt x0 hx n) (by decide) (by decide)
    (by decide) (by decide) (by decide) j

include hx in
/-- The fainted one-hot. -/
theorem sec_fainted (j : Fin 2) : val_main_v90 (F := Ideal) x0 (ix2 n j) = hits (fld (rowOf x0 n)) (1654 + j.val) :=
  hot_field x0 (by decide) (by decide) 15 slices_S16384x40_S16384x1_0_15 _ _ _ n (fields_lt x0 hx n) (by decide) (by decide)
    (by decide) (by decide) (by decide) j

include hx in
/-- The active one-hot. -/
theorem sec_active (j : Fin 2) : val_main_v93 (F := Ideal) x0 (ix2 n j) = hits (fld (rowOf x0 n)) (1656 + j.val) :=
  hot_field x0 (by decide) (by decide) 16 slices_S16384x40_S16384x1_0_16 _ _ _ n (fields_lt x0 hx n) (by decide) (by decide)
    (by decide) (by decide) (by decide) j

/-! ## The sections of several fields -/

/-- A block of columns of the entities. -/
theorem block_word {w : ℕ} (c : ℕ) (h : S16384x40.Slices ![0, c] (⟨2, ![16384, w]⟩ : Shape)) (s : Fin w) (hs : c + s.val < 40) :
    extractStridedSlice (⟨2, ![16384, w]⟩ : Shape) ![0, c] x0 h (ix2 n s) = x0 (ix2 n ⟨c + s.val, hs⟩) :=
  extractStridedSlice_apply _ _ _ _ _ fun a => match a with
    | ⟨0, _⟩ => (Nat.zero_add _).symm
    | ⟨1, _⟩ => rfl

include hx in
/-- The summed one-hots of the four moves. -/
theorem sec_moves (j : Fin 512) : val_main_v8 (F := Ideal) x0 (ix2 n j) = hits (fld (rowOf x0 n)) (1024 + j.val) := by
  rw [hits_move _ (fields_lt x0 hx n) j.val j.isLt, val_main_v8_apply]
  have hz : val_main_cst (F := Ideal) (Shape.Idx.first h_S_) = (0 : EReal) := Ideal.ofBits_zero_f32
  rw [hz, zero_add]
  refine Finset.sum_congr rfl fun s _ => ?_
  have hs : 3 + s.val < 40 := by omega
  refine (show val_main_v7 (F := Ideal) x0 (idx_main_v8 (ix2 n j) s) = val_main_v7 (F := Ideal) x0 (ix3 n s j) from
    congrArg _ (funext fun a => match a with | ⟨0, _⟩ => rfl | ⟨1, _⟩ => rfl | ⟨2, _⟩ => rfl)).trans ?_
  refine (hot3_apply (by decide) (by decide) (by decide) (by decide) (val_main_v6 (F := Ideal) x0) _ _ _ n s j).trans ?_
  rw [show val_main_v6 (F := Ideal) x0 (ix2 n s) = x0 (ix2 n ⟨3 + s.val, hs⟩) from block_word x0 n 3 _ s hs, fld_eq]

include hx in
/-- The bits of the packed volatile fields. -/
theorem sec_volatile (j : Fin 33) : val_main_v22 (F := Ideal) x0 (ix2 n j) = hits (fld (rowOf x0 n)) (1536 + j.val) := by
  have hq : j.val / 4 < 9 := by omega
  have hb : j.val % 4 < 4 := by omega
  have hj : 4 * (j.val / 4) + j.val % 4 = j.val := by omega
  have hs : 24 + j.val / 4 < 40 := by omega
  have e := hits_vol _ (fields_lt x0 hx n) (j.val / 4) (j.val % 4) hq hb (by omega)
  rw [show 1536 + j.val = 1536 + 4 * (j.val / 4) + j.val % 4 by omega, e]
  have e1 : val_main_v22 (F := Ideal) x0 (ix2 n j)
      = val_main_v20 (F := Ideal) x0 (ix3 n (⟨j.val / 4, hq⟩ : Fin 9) (⟨j.val % 4, hb⟩ : Fin 4)) := by
    rw [val_main_v22_apply, val_main_v21_apply]
    refine congrArg _ (funext fun a => Fin.ext ?_)
    match a with
    | ⟨0, _⟩ => show (n.val * 36 + j.val) / 36 = n.val; omega
    | ⟨1, _⟩ => show (n.val * 36 + j.val) / 4 % 9 = j.val / 4; omega
    | ⟨2, _⟩ => show (n.val * 36 + j.val) % 4 = j.val % 4; omega
  have e2 : val_main_v15 (F := Ideal) x0 (ix3 n (⟨j.val / 4, hq⟩ : Fin 9) (⟨j.val % 4, hb⟩ : Fin 4)) = x0 (ix2 n ⟨24 + j.val / 4, hs⟩) := by
    refine (spread_apply (by decide) (by decide) (val_main_v9 (F := Ideal) x0) _ _ n _ _).trans ?_
    exact block_word x0 n 24 _ (⟨j.val / 4, hq⟩ : Fin 9) hs
  have e3 : val_main_v16 (F := Ideal) (ix3 n (⟨j.val / 4, hq⟩ : Fin 9) (⟨j.val % 4, hb⟩ : Fin 4))
      = IntOp.shli .host 1#32 (BitVec.ofNat 32 (j.val % 4)) := by
    rw [val_main_v16_apply, val_main_v14_apply, val_main_v12_apply, val_main_v11_apply]
    rfl
  have e4 : val_main_v18 (F := Ideal) (ix3 n (⟨j.val / 4, hq⟩ : Fin 9) (⟨j.val % 4, hb⟩ : Fin 4)) = 0#32 := by
    rw [val_main_v18_apply]
    rfl
  rw [e1, val_main_v20_apply, val_main_v19_apply, val_main_v17_apply, e2, e3, e4, bit_float _ (hx _ _) _ hb, fld_eq]

include hx in
/-- The one-hots of the boosts. -/
theorem sec_boosts (j : Fin 91) : val_main_v27 (F := Ideal) x0 (ix2 n j) = hits (fld (rowOf x0 n)) (1658 + j.val) := by
  have hq : j.val / 13 < 7 := by omega
  have ht : j.val % 13 < 13 := by omega
  have hs : 17 + j.val / 13 < 40 := by omega
  rw [show 1658 + j.val = 1658 + 13 * (j.val / 13) + j.val % 13 by omega,
    hits_boost _ (fields_lt x0 hx n) (j.val / 13) (j.val % 13) hq ht]
  have e1 : val_main_v27 (F := Ideal) x0 (ix2 n j)
      = val_main_v26 (F := Ideal) x0 (ix3 n (⟨j.val / 13, hq⟩ : Fin 7) (⟨j.val % 13, ht⟩ : Fin 13)) := by
    rw [val_main_v27_apply]
    refine congrArg _ (funext fun a => Fin.ext ?_)
    match a with
    | ⟨0, _⟩ => show (n.val * 91 + j.val) / 91 = n.val; omega
    | ⟨1, _⟩ => show (n.val * 91 + j.val) / 13 % 7 = j.val / 13; omega
    | ⟨2, _⟩ => show (n.val * 91 + j.val) % 13 = j.val % 13; omega
  rw [e1]
  refine (hot3_apply (by decide) (by decide) (by decide) (by decide) (val_main_v25 (F := Ideal) x0) _ _ _ n _ _).trans ?_
  have e2 : val_main_v25 (F := Ideal) x0 (ix2 n (⟨j.val / 13, hq⟩ : Fin 7)) = IntOp.addi (x0 (ix2 n ⟨17 + j.val / 13, hs⟩)) 6#32 := by
    rw [val_main_v25_apply, val_main_v24_apply]
    exact congrArg (fun y => IntOp.addi y 6#32) (block_word x0 n 17 _ (⟨j.val / 13, hq⟩ : Fin 7) hs)
  rw [e2, boost_word _ (hx _ _), fld_eq]

/-! ## The embedding rows -/

include hx in
/-- The row of a table at a field, the field's words wrapped as array indexing wraps them. -/
theorem sec_row {N C : ℕ} (c : ℕ) (hc : c < 40) (h : S16384x40.Slices ![0, c] S16384x1)
    (wf : GatherDims.WF ⟨2, ![N, C]⟩ ⟨2, ![16384, 1]⟩ ⟨2, ![16384, C]⟩ [1] [0] [] [0] [] 1 ![1, C])
    (A : (⟨2, ![N, C]⟩ : Shape).Idx → EReal) (z w : BitVec 32) (hz : z = 0#32) (hN : 7 ≤ N) (j : Fin C) :
    Host.gather (rowDims N C 16384 wf) A (broadcastInDim S16384x1 ![0] bcast_S16384_S16384x1_0
      (select (cmpi .slt (shapeCast S16384 (extractStridedSlice S16384x1 ![0, c] x0 h) shapeCasts_S16384x1_S16384)
          (broadcastInDim S16384 ![] bcast_S_S16384 (constantI S_ 32 z)))
        (addi (shapeCast S16384 (extractStridedSlice S16384x1 ![0, c] x0 h) shapeCasts_S16384x1_S16384)
          (broadcastInDim S16384 ![] bcast_S_S16384 (constantI S_ 32 w)))
        (shapeCast S16384 (extractStridedSlice S16384x1 ![0, c] x0 h) shapeCasts_S16384x1_S16384))) (ix2 n j)
      = at2 A (fld (rowOf x0 n) c) j.val := by
  have hl : fld (rowOf x0 n) c < 7 := fields_lt x0 hx n c
  rw [at2_eq A _ _ (by omega) j.isLt]
  refine gather_row_apply wf A _ n j _ (by omega) ?_
  rw [broadcastInDim_apply _ bcast_S16384_S16384x1_0 _ (ix2 n (0 : Fin 1)) (ix1 n) (fun a => match a with
    | ⟨0, _⟩ => (if_neg (show ¬(16384 = 1) by decide)).symm)]
  show (Scalar.select (IntOp.cmpi .slt (shapeCast S16384 (extractStridedSlice S16384x1 ![0, c] x0 h) shapeCasts_S16384x1_S16384 (ix1 n)) z)
    (IntOp.addi (shapeCast S16384 (extractStridedSlice S16384x1 ![0, c] x0 h) shapeCasts_S16384x1_S16384 (ix1 n)) w)
    (shapeCast S16384 (extractStridedSlice S16384x1 ![0, c] x0 h) shapeCasts_S16384x1_S16384 (ix1 n))).toInt = _
  rw [column_read x0 c hc h _ n, hz, wrap_small _ _ (hx _ _), fld_eq]

end

end Cert.ReferenceIdeal.Enc
-- ==== Proof.Enc.RefCat.lean ====
/- The reference's code array is the entities' codes: its sections, joined. -/
module

public import proofs.«01_k».proof.Proof.Enc.RefCode
public import Idealize.ShloMosaic.Lib.Pipeline.Value

@[expose] public section

set_option maxRecDepth 16384

noncomputable section

namespace Cert.ReferenceIdeal.Enc

open Cert.Enc Cert.ReferenceIdeal Cert.ReferenceIdeal.Gen Cert.ReferenceIdeal.Read
open Idealize.ShloMosaic Idealize.ShloMosaic.TcCoe Idealize.ShloMosaic.ValueIdx

/-- Arrays joined along the columns, read in the `k`-th of them, which starts at column `pre`. -/
theorem joined_apply {B W w : ℕ} (xs : List ((s : Shape) × (s.Idx → EReal)))
    (h : Shape.Concatenates (xs.map (·.1)) (⟨2, ![B, W]⟩ : Shape) 1) (n : Fin B) (J : Fin W) (g : ℕ → EReal) (k pre : ℕ)
    (x : (⟨2, ![B, w]⟩ : Shape).Idx → EReal) (hx : xs[k]? = some ⟨⟨2, ![B, w]⟩, x⟩)
    (hpre : (((xs.take k).map (·.1)).map fun s => if h : s.rank = (⟨2, ![B, W]⟩ : Shape).rank then s.size ((1 : Fin (⟨2, ![B, W]⟩ : Shape).rank).cast h.symm) else 0).sum = pre)
    (hg : ∀ j : Fin w, x (ix2 n j) = g (pre + j.val)) (h1 : pre ≤ J.val) (h2 : J.val < pre + w) :
    concatenate (⟨2, ![B, W]⟩ : Shape) 1 xs h (ix2 n J) = g J.val := by
  obtain ⟨hk, hxk⟩ := List.getElem?_eq_some_iff.1 hx
  have hj : pre + (J.val - pre) = J.val := by omega
  have e := concatenate_apply_piece 1 xs h (ix2 n J) k hk _ x hxk rfl pre hpre
    (ix2 n (⟨J.val - pre, by omega⟩ : Fin w)) (fun b hb => match b with
      | ⟨0, _⟩ => rfl
      | ⟨1, _⟩ => absurd rfl hb) hj
  exact e.trans ((hg _).trans (congrArg g hj))

variable (x0 : IVec S16384x40 32) (hx : ∀ (n : Fin 16384) (c : Fin 40), (x0 (ix2 n c)).toNat < 7)
variable (x1 : FVec Ideal S512x128 .f32) (x2 x3 : FVec Ideal S128x64 .f32) (n : Fin 16384)

/-- From position 256 on an entity's code is its hits. -/
theorem code_hits {A0 A1 A2 : ℕ → ℕ → EReal} {x : ℕ → ℕ} {J : ℕ} (hJ : 256 ≤ J) {y : EReal} (hy : y = hits x J) :
    y = code A0 A1 A2 x J := by
  unfold code
  rw [if_neg (by omega), if_neg (by omega), if_neg (by omega)]
  exact hy

set_option maxHeartbeats 4000000 in
/-- The sixteen sections joined first: if each section is `g` from where it starts, so is the joined array. -/
theorem sixteen_joined (g : ℕ → EReal)
    (y0 : FVec Ideal S16384x128 .f32) (h0 : ∀ j, y0 (ix2 n j) = g (0 + j.val))
    (y1 : FVec Ideal S16384x64 .f32) (h1 : ∀ j, y1 (ix2 n j) = g (128 + j.val))
    (y2 : FVec Ideal S16384x64 .f32) (h2 : ∀ j, y2 (ix2 n j) = g (192 + j.val))
    (y3 : FVec Ideal S16384x512 .f32) (h3 : ∀ j, y3 (ix2 n j) = g (256 + j.val))
    (y4 : FVec Ideal S16384x128 .f32) (h4 : ∀ j, y4 (ix2 n j) = g (768 + j.val))
    (y5 : FVec Ideal S16384x128 .f32) (h5 : ∀ j, y5 (ix2 n j) = g (896 + j.val))
    (y6 : FVec Ideal S16384x512 .f32) (h6 : ∀ j, y6 (ix2 n j) = g (1024 + j.val))
    (y7 : FVec Ideal S16384x33 .f32) (h7 : ∀ j, y7 (ix2 n j) = g (1536 + j.val))
    (y8 : FVec Ideal S16384x11 .f32) (h8 : ∀ j, y8 (ix2 n j) = g (1569 + j.val))
    (y9 : FVec Ideal S16384x32 .f32) (h9 : ∀ j, y9 (ix2 n j) = g (1580 + j.val))
    (y10 : FVec Ideal S16384x4 .f32) (h10 : ∀ j, y10 (ix2 n j) = g (1612 + j.val))
    (y11 : FVec Ideal S16384x8 .f32) (h11 : ∀ j, y11 (ix2 n j) = g (1616 + j.val))
    (y12 : FVec Ideal S16384x16 .f32) (h12 : ∀ j, y12 (ix2 n j) = g (1624 + j.val))
    (y13 : FVec Ideal S16384x2 .f32) (h13 : ∀ j, y13 (ix2 n j) = g (1640 + j.val))
    (y14 : FVec Ideal S16384x8 .f32) (h14 : ∀ j, y14 (ix2 n j) = g (1642 + j.val))
    (y15 : FVec Ideal S16384x4 .f32) (h15 : ∀ j, y15 (ix2 n j) = g (1650 + j.val))
    (h : Shape.Concatenates ([S16384x128, S16384x64, S16384x64, S16384x512, S16384x128, S16384x128, S16384x512, S16384x33, S16384x11, S16384x32, S16384x4, S16384x8, S16384x16, S16384x2, S16384x8, S16384x4]) S16384x1654 1) (J : Fin 1654) :
    concatenate S16384x1654 1 [⟨S16384x128, y0⟩, ⟨S16384x64, y1⟩, ⟨S16384x64, y2⟩, ⟨S16384x512, y3⟩, ⟨S16384x128, y4⟩, ⟨S16384x128, y5⟩, ⟨S16384x512, y6⟩, ⟨S16384x33, y7⟩, ⟨S16384x11, y8⟩, ⟨S16384x32, y9⟩, ⟨S16384x4, y10⟩, ⟨S16384x8, y11⟩, ⟨S16384x16, y12⟩, ⟨S16384x2, y13⟩, ⟨S16384x8, y14⟩, ⟨S16384x4, y15⟩] h (ix2 n J) = g J.val := by
  have hJ := J.isLt
  by_cases c0 : J.val < 128
  · exact joined_apply _ _ n J g 0 0 y0 rfl rfl h0 (by omega) c0
  by_cases c1 : J.val < 192
  · exact joined_apply _ _ n J g 1 128 y1 rfl rfl h1 (by omega) c1
  by_cases c2 : J.val < 256
  · exact joined_apply _ _ n J g 2 192 y2 rfl rfl h2 (by omega) c2
  by_cases c3 : J.val < 768
  · exact joined_apply _ _ n J g 3 256 y3 rfl rfl h3 (by omega) c3
  by_cases c4 : J.val < 896
  · exact joined_apply _ _ n J g 4 768 y4 rfl rfl h4 (by omega) c4
  by_cases c5 : J.val < 1024
  · exact joined_apply _ _ n J g 5 896 y5 rfl rfl h5 (by omega) c5
  by_cases c6 : J.val < 1536
  · exact joined_apply _ _ n J g 6 1024 y6 rfl rfl h6 (by omega) c6
  by_cases c7 : J.val < 1569
  · exact joined_apply _ _ n J g 7 1536 y7 rfl rfl h7 (by omega) c7
  by_cases c8 : J.val < 1580
  · exact joined_apply _ _ n J g 8 1569 y8 rfl rfl h8 (by omega) c8
  by_cases c9 : J.val < 1612
  · exact joined_apply _ _ n J g 9 1580 y9 rfl rfl h9 (by omega) c9
  by_cases c10 : J.val < 1616
  · exact joined_apply _ _ n J g 10 1612 y10 rfl rfl h10 (by omega) c10
  by_cases c11 : J.val < 1624
  · exact joined_apply _ _ n J g 11 1616 y11 rfl rfl h11 (by omega) c11
  by_cases c12 : J.val < 1640
  · exact joined_apply _ _ n J g 12 1624 y12 rfl rfl h12 (by omega) c12
  by_cases c13 : J.val < 1642
  · exact joined_apply _ _ n J g 13 1640 y13 rfl rfl h13 (by omega) c13
  by_cases c14 : J.val < 1650
  · exact joined_apply _ _ n J g 14 1642 y14 rfl rfl h14 (by omega) c14
  exact joined_apply _ _ n J g 15 1650 y15 rfl rfl h15 (by omega) (by omega)

include hx in
/-- The code's first sixteen sections. -/
theorem first_sections (J : Fin 1654) : val_main_v94 (F := Ideal) x0 x1 x2 x3 (ix2 n J)
    = code (at2 x1) (at2 x2) (at2 x3) (fld (rowOf x0 n)) J.val := by
  have r0 : ∀ j : Fin 128, val_main_v34 (F := Ideal) x0 x1 (ix2 n j) = code (at2 x1) (at2 x2) (at2 x3) (fld (rowOf x0 n)) (0 + j.val) := fun j => by
    have hj := j.isLt
    unfold code
    rw [if_pos (by omega), Nat.zero_add]
    exact sec_row x0 hx n 0 (by decide) slices_S16384x40_S16384x1_0_0 _ x1 0#32 512#32 rfl (by decide) j
  have r1 : ∀ j : Fin 64, val_main_v41 (F := Ideal) x0 x2 (ix2 n j) = code (at2 x1) (at2 x2) (at2 x3) (fld (rowOf x0 n)) (128 + j.val) := fun j => by
    have hj := j.isLt
    unfold code
    rw [if_neg (by omega), if_pos (by omega), Nat.add_sub_cancel_left]
    exact sec_row x0 hx n 1 (by decide) slices_S16384x40_S16384x1_0_1 _ x2 0#32 128#32 rfl (by decide) j
  have r2 : ∀ j : Fin 64, val_main_v48 (F := Ideal) x0 x3 (ix2 n j) = code (at2 x1) (at2 x2) (at2 x3) (fld (rowOf x0 n)) (192 + j.val) := fun j => by
    have hj := j.isLt
    unfold code
    rw [if_neg (by omega), if_neg (by omega), if_pos (by omega), Nat.add_sub_cancel_left]
    exact sec_row x0 hx n 2 (by decide) slices_S16384x40_S16384x1_0_2 _ x3 0#32 128#32 rfl (by decide) j
  exact sixteen_joined n (code (at2 x1) (at2 x2) (at2 x3) (fld (rowOf x0 n))) _ r0 _ r1 _ r2
    _ (fun j => code_hits (by omega) (sec_species x0 hx n j))
    _ (fun j => code_hits (by omega) (sec_ability x0 hx n j))
    _ (fun j => code_hits (by omega) (sec_item x0 hx n j))
    _ (fun j => code_hits (by omega) (sec_moves x0 hx n j))
    _ (fun j => code_hits (by omega) (sec_volatile x0 hx n j))
    _ (fun j => code_hits (by omega) (sec_level x0 hx n j))
    _ (fun j => code_hits (by omega) (sec_hp x0 hx n j))
    _ (fun j => code_hits (by omega) (sec_gender x0 hx n j))
    _ (fun j => code_hits (by omega) (sec_status x0 hx n j))
    _ (fun j => code_hits (by omega) (sec_effect x0 hx n j))
    _ (fun j => code_hits (by omega) (sec_trapped x0 hx n j))
    _ (fun j => code_hits (by omega) (sec_toxic x0 hx n j))
    _ (fun j => code_hits (by omega) (sec_sleep x0 hx n j))
    _ J

include hx in
/-- The code's last three sections. -/
theorem last_sections (J : Fin 95) : val_main_v95 (F := Ideal) x0 (ix2 n J) = hits (fld (rowOf x0 n)) (1654 + J.val) := by
  have hJ := J.isLt
  unfold val_main_v95
  by_cases h1 : J.val < 2
  · exact joined_apply _ _ n J (fun j => hits (fld (rowOf x0 n)) (1654 + j)) 0 0 (val_main_v90 (F := Ideal) x0) rfl rfl
      (fun j => (sec_fainted x0 hx n j).trans (congrArg (hits _) (by omega))) (by omega) (by omega)
  by_cases h2 : J.val < 4
  · exact joined_apply _ _ n J (fun j => hits (fld (rowOf x0 n)) (1654 + j)) 1 2 (val_main_v93 (F := Ideal) x0) rfl rfl
      (fun j => (sec_active x0 hx n j).trans (congrArg (hits _) (by omega))) (by omega) (by omega)
  · exact joined_apply _ _ n J (fun j => hits (fld (rowOf x0 n)) (1654 + j)) 2 4 (val_main_v27 (F := Ideal) x0) rfl rfl
      (fun j => (sec_boosts x0 hx n j).trans (congrArg (hits _) (by omega))) (by omega) (by omega)

include hx in
/-- The reference's code array at an entity and a position. -/
theorem code_read (J : Fin 1749) : val_main_v96 (F := Ideal) x0 x1 x2 x3 (ix2 n J)
    = code (at2 x1) (at2 x2) (at2 x3) (fld (rowOf x0 n)) J.val := by
  have hJ := J.isLt
  unfold val_main_v96
  by_cases h1 : J.val < 1654
  · exact joined_apply _ _ n J (code (at2 x1) (at2 x2) (at2 x3) (fld (rowOf x0 n))) 0 0 (val_main_v94 (F := Ideal) x0 x1 x2 x3) rfl rfl
      (fun j => (first_sections x0 hx x1 x2 x3 n j).trans (congrArg (code _ _ _ _) (Nat.zero_add _).symm)) (by omega) (by omega)
  · exact joined_apply _ _ n J (code (at2 x1) (at2 x2) (at2 x3) (fld (rowOf x0 n))) 1 1654 (val_main_v95 (F := Ideal) x0) rfl rfl
      (fun j => code_hits (by omega) (last_sections x0 hx n j)) (by omega) (by omega)

/-! ## The results -/

include hx in
/-- The reference's embedding of an entity before the mask. -/
theorem embedding_read (x4 : FVec Ideal S1749x256 .f32) (x5 : FVec Ideal S256 .f32) (o : Fin 256) :
    val_main_v100 (F := Ideal) x0 x1 x2 x3 x4 x5 (ix2 n o)
      = (∑ j : Fin 1749, code (at2 x1) (at2 x2) (at2 x3) (fld (rowOf x0 n)) j.val * x4 (ix2 j o)) + x5 (ix1 o) := by
  rw [val_main_v100_apply, val_main_v97_apply, val_main_v99_apply, val_main_v98_apply]
  have e : ∀ k : Fin 1749, (val_main_v96 (F := Ideal) x0 x1 x2 x3) (lidx_main_v97 (ix2 n o) k) * x4 (ridx_main_v97 (ix2 n o) k)
      = code (at2 x1) (at2 x2) (at2 x3) (fld (rowOf x0 n)) k.val * x4 (ix2 k o) := fun k => by
    rw [show lidx_main_v97 (ix2 n o) k = ix2 n k from funext fun a => match a with | ⟨0, _⟩ => rfl | ⟨1, _⟩ => rfl,
      show ridx_main_v97 (ix2 n o) k = ix2 k o from funext fun a => match a with | ⟨0, _⟩ => rfl | ⟨1, _⟩ => rfl,
      code_read x0 hx x1 x2 x3 n k]
  rw [Finset.sum_congr rfl fun k _ => e k,
    show idx_main_v98 (idx_main_v99 (ix2 n o)) = ix1 o from funext fun a => match a with | ⟨0, _⟩ => rfl]
  rfl

/-- The reference's mask bit of an entity, from its first word. -/
def refBit (s : BitVec 32) : BitVec 1 := ~~~(IntOp.ori (IntOp.cmpi .eq s 0#32) (IntOp.cmpi .eq s 1#32))

/-- The reference's second result. -/
theorem mask_read : val_main_v106 (F := Ideal) x0 (ix1 n) = refBit (x0 (ix2 n 0)) := by
  rw [val_main_v106_apply, val_main_v105_apply, val_main_v102_apply, val_main_v104_apply, val_main_v101_apply, val_main_v103_apply,
    show val_main_v1 (F := Ideal) x0 (ix1 n) = x0 (ix2 n 0) from column_read x0 0 (by decide) slices_S16384x40_S16384x1_0_0 _ n]
  rfl

include hx in
/-- The reference's first result: the embedding where the mask is set, zero elsewhere. -/
theorem result_read (x4 : FVec Ideal S1749x256 .f32) (x5 : FVec Ideal S256 .f32) (o : Fin 256) :
    val_main_v108 (F := Ideal) x0 x1 x2 x3 x4 x5 (ix2 n o)
      = Scalar.select (refBit (x0 (ix2 n 0)))
          ((∑ j : Fin 1749, code (at2 x1) (at2 x2) (at2 x3) (fld (rowOf x0 n)) j.val * x4 (ix2 j o)) + x5 (ix1 o)) (0 : EReal) := by
  have hz : val_main_call15_v2 (F := Ideal) (ix2 n o) = (0 : EReal) := by
    rw [val_main_call15_v2_apply, val_main_call15_v0_apply]
    show (((0#32 : BitVec 32).toInt : ℝ) : EReal) = 0
    simp
  rw [val_main_v108_apply, embedding_read x0 hx x1 x2 x3 n x4 x5 o, hz, val_main_call15_v1_apply, val_main_v107_apply,
    show idx_main_v107 (idx_main_call15_v1 (ix2 n o)) = ix1 n from funext fun a => match a with | ⟨0, _⟩ => rfl, mask_read]

end Cert.ReferenceIdeal.Enc
-- ==== Proof.Enc.Bounds.lean ====
/- The precondition bounds every word of the entities. -/
module

public import proofs.«01_k».proof.Pre_in_range
public import Idealize.ShloMosaic.Lib.ReduceAll

@[expose] public section

set_option maxRecDepth 16384

noncomputable section

namespace Cert.Pre_in_range

open Idealize.ShloMosaic

/-- A word that passes both signed comparisons lies below seven. -/
theorem word_bounds (a : BitVec 32) (h : IntOp.andi (IntOp.cmpi .sge a 0#32) (IntOp.cmpi .slt a 7#32) = 1#1) : a.toNat < 7 := by
  have h' : BitVec.ofBool ((0#32).sle a) &&& BitVec.ofBool (a.slt 7#32) = 1#1 := h
  have h0 : (0#32).sle a = true := by
    cases e : (0#32).sle a
    · rw [e] at h'; cases e2 : a.slt 7#32 <;> rw [e2] at h' <;> exact absurd h' (by decide)
    · rfl
  have h1 : a.slt 7#32 = true := by
    cases e : a.slt 7#32
    · rw [e, h0] at h'; exact absurd h' (by decide)
    · rfl
  have i0 : (0 : ℤ) ≤ a.toInt := by simpa [BitVec.sle] using h0
  have i1 : a.toInt < 7 := by simpa [BitVec.slt] using h1
  have e := BitVec.toInt_eq_toNat_cond a
  have hl := a.isLt
  split at e <;> omega

variable [Facts]

/-- Where the predicate holds every word of the entities lies below seven. -/
theorem words_lt {F : FTy → Type} [FloatOps F] (x0 : IVec S16384x40 32) (x1 : FVec F S512x128 .f32) (x2 x3 : FVec F S128x64 .f32)
    (x4 : FVec F S1749x256 .f32) (x5 : FVec F S256 .f32) (h : fn (F := F) x0 x1 x2 x3 x4 x5 = fun _ => 1#1) (i : S16384x40.Idx) :
    (x0 i).toNat < 7 := by
  haveI : Subsingleton S_.Idx := ⟨fun a b => funext fun k => k.elim0⟩
  exact word_bounds _ (Host.reduce_andi_all _ _ _ _ (fun k => k.elim0) (congrFun h fun k => k.elim0) i)

end Cert.Pre_in_range
-- ==== Proof.Enc.Claims.lean ====
/- The kernel's results and the reference's are the same arrays. -/
module

public import proofs.«01_k».proof.Defs
public import proofs.«01_k».proof.Proof.Gen.Pre_in_range
public import proofs.«01_k».proof.Proof.Gen.ReferenceIdeal.Run
public import proofs.«01_k».proof.Proof.Enc.Run
public import proofs.«01_k».proof.Proof.Enc.Results
public import proofs.«01_k».proof.Proof.Enc.KernelValue
public import proofs.«01_k».proof.Proof.Enc.RefCat
public import proofs.«01_k».proof.Proof.Enc.Bounds

@[expose] public section

set_option maxRecDepth 16384

noncomputable section

namespace Cert.Proof.Enc

open Idealize.ShloMosaic Idealize.ShloMosaic.TcCoe Idealize.ShloMosaic.ValueIdx Idealize.SL.Sem
open Idealize.ShloMosaic.StableHlo
open Cert.KernelIdeal.Gen (W5)
open Cert.Enc Cert.KernelIdeal.Enc Cert.ReferenceIdeal.Enc Cert.ReferenceIdeal.Read

/-- Both programs compute the same mask bit. -/
theorem same_bit (s : BitVec 32) : refBit s = maskBit s := by
  have h : ∀ b : BitVec 1, ~~~b = IntOp.xori b 1#1 := by decide
  exact h _

/-- Choosing between a value and zero by a bit is multiplying by the bit. -/
theorem select_bit (b : BitVec 1) (x : EReal) : Scalar.select b x 0 = x * bit b := by
  have hb : b = 0#1 ∨ b = 1#1 := (by decide : ∀ b : BitVec 1, b = 0#1 ∨ b = 1#1) b
  rcases hb with rfl | rfl
  · rw [bit_zero, mul_zero]; rfl
  · rw [bit_one, mul_one]; rfl

variable (m : (ℓ : Loc Cert.KernelIdeal.nD Cert.KernelIdeal.τ Cert.KernelIdeal.sig) → Buf (Elt Ideal) ℓ)
variable (ρ : Dev Cert.KernelIdeal.nD → PrngReg)

/-- The first result: the masked embeddings. -/
theorem fst_eq (c : Dev Cert.KernelIdeal.nD)
    (hx : ∀ i, ((m ((c.tc : Thread Cert.KernelIdeal.nD Cert.KernelIdeal.τ).loc Cert.KernelIdeal.main_arg0) : IVec Cert.KernelIdeal.S16384x40 32) i).toNat < 7) :
    val_main_v108 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = (W5 m ρ c (Proc.devRef .tc Cert.KernelIdeal.main_v0_0) : FVec Ideal Cert.KernelIdeal.S16384x256 .f32) := by
  funext i
  obtain ⟨n, o, rfl⟩ : ∃ n o, i = ix2 n o := ⟨i 0, i 1, eq_ix2 i⟩
  refine (result_read _ (fun n k => hx (ix2 n k)) _ _ _ n _ _ o).trans ?_
  refine Eq.trans ?_ (result_fst m ρ c n o).symm
  refine Eq.trans ?_ (entity_code _ _ _ _ _ _ (fun k => hx (ix2 n k)) _ o).symm
  rw [same_bit]
  exact select_bit _ _

/-- The second result: the mask. -/
theorem snd_eq (c : Dev Cert.KernelIdeal.nD) :
    val_main_v106 (F := Ideal) (m ((c.tc : Thread Cert.KernelIdeal.nD Cert.KernelIdeal.τ).loc Cert.KernelIdeal.main_arg0))
      = (W5 m ρ c (Proc.devRef .tc Cert.KernelIdeal.main_v0_1) : IVec Cert.KernelIdeal.S16384 1) := by
  funext i
  obtain ⟨n, rfl⟩ : ∃ n, i = ix1 n := ⟨i 0, eq_ix1 i⟩
  exact ((mask_read _ n).trans (same_bit _)).trans (result_snd m ρ c n).symm

/-- From argument arrays that agree and entities in range, the kernel and the reference end with equal results. -/
theorem algebraic : Cert.algebraic_KernelIdeal_ReferenceIdeal_pre_in_range := by
  intro m ρ m' ρ' hpre hagree
  have hx (c : Dev Cert.KernelIdeal.nD) := Cert.Pre_in_range.words_lt _ _ _ _ _ _ (hpre c)
  refine ⟨fun c => W5 m ρ c (Proc.devRef .tc Cert.KernelIdeal.main_v0_0), fun c => W5 m ρ c (Proc.devRef .tc Cert.KernelIdeal.main_v0_1),
    run_last m ρ, ?_⟩
  refine (θ_run Cert.ReferenceIdeal.defs _ _).mono (fun r h c => ⟨?_, ?_, (h c).2.2⟩) (Cert.ReferenceIdeal.Value.run (F := Ideal) m' ρ')
  · refine (h c).1.trans ((val_main_v108_eq (launchContents m' c)).trans ?_)
    obtain ⟨a0, a1, a2, a3, a4, a5⟩ := hagree c
    refine Eq.trans ?_ (fst_eq m ρ c (hx c))
    rw [← a0, ← a1, ← a2, ← a3, ← a4, ← a5]
  · refine (h c).2.1.trans ((val_main_v106_eq (launchContents m' c)).trans ?_)
    refine Eq.trans ?_ (snd_eq m ρ c)
    rw [← (hagree c).1]

end Cert.Proof.Enc
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Enc.Claims

@[expose] public section

noncomputable section

namespace Cert.Proof

open Idealize.ShloMosaic Idealize.SL.Sem

/-- The printed kernel leaves its arguments unchanged and its semaphores at zero. -/
theorem frame_kernel : Cert.quiescent_Kernel := fun m ρ _ => Cert.Kernel.Gen.frame m ρ

/-- So does the kernel over the reals, -/
theorem frame_ideal : Cert.quiescent_KernelIdeal := fun m ρ _ => Cert.KernelIdeal.Gen.frame m ρ

/-- also under the precondition. -/
theorem frame_ideal_pre : Cert.quiescent_KernelIdeal_pre_in_range := fun m ρ _ => Cert.KernelIdeal.Gen.frame m ρ

/-- The reference over the reals leaves its arguments unchanged; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Also under the precondition. -/
theorem frame_reference_pre : Cert.quiescent_ReferenceIdeal_pre_in_range := fun m ρ _ => frame_reference m ρ trivial

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, frame_ideal_pre, frame_reference, frame_reference_pre, trivial, Cert.Proof.Enc.algebraic⟩

end Cert.Proof

end
